-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.Statement Cert.KernelIdeal.S56x256 Cert.KernelIdeal.S28x256
  ∧ IdealRules.bf16_pair.Statement Cert.KernelIdeal.S16x256 Cert.KernelIdeal.S8x256
  ∧ IdealRules.bf16_pair.Statement Cert.KernelIdeal.S16x7168 Cert.KernelIdeal.S8x7168
  ∧ IdealRules.bf16_pack.Statement Cert.KernelIdeal.S8x7168

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x7168 : Shape := ⟨3, ![24, 1, 7168]⟩
abbrev S24 : Shape := ⟨1, ![24]⟩
abbrev S3584x40960 : Shape := ⟨2, ![3584, 40960]⟩
abbrev S56x40960 : Shape := ⟨2, ![56, 40960]⟩
abbrev S10240x7168 : Shape := ⟨2, ![10240, 7168]⟩
abbrev S160x7168 : Shape := ⟨2, ![160, 7168]⟩
abbrev S11x7168x64 : Shape := ⟨3, ![11, 7168, 64]⟩
abbrev S11x2x32x20480 : Shape := ⟨4, ![11, 2, 32, 20480]⟩
abbrev S11x20480x32 : Shape := ⟨3, ![11, 20480, 32]⟩
abbrev S11x32x7168 : Shape := ⟨3, ![11, 32, 7168]⟩
abbrev S11 : Shape := ⟨1, ![11]⟩
abbrev S24x7168 : Shape := ⟨2, ![24, 7168]⟩
abbrev S11x64x7168 : Shape := ⟨3, ![11, 64, 7168]⟩
abbrev S11x32x20480 : Shape := ⟨3, ![11, 32, 20480]⟩
abbrev S24x20480 : Shape := ⟨2, ![24, 20480]⟩
abbrev S24x64 : Shape := ⟨2, ![24, 64]⟩
abbrev S24x32 : Shape := ⟨2, ![24, 32]⟩
abbrev S11x32x256 : Shape := ⟨3, ![11, 32, 256]⟩
abbrev S3584x256 : Shape := ⟨2, ![3584, 256]⟩
abbrev S56x256 : Shape := ⟨2, ![56, 256]⟩
abbrev S11x2x32x256 : Shape := ⟨4, ![11, 2, 32, 256]⟩
abbrev S256x7168 : Shape := ⟨2, ![256, 7168]⟩
abbrev S32x7168 : Shape := ⟨2, ![32, 7168]⟩
abbrev S24x352 : Shape := ⟨2, ![24, 352]⟩
abbrev S24x128 : Shape := ⟨2, ![24, 128]⟩
abbrev S24x128x1 : Shape := ⟨3, ![24, 128, 1]⟩
abbrev S24x256 : Shape := ⟨2, ![24, 256]⟩
abbrev S8x7168 : Shape := ⟨2, ![8, 7168]⟩
abbrev S24x1 : Shape := ⟨2, ![24, 1]⟩
abbrev S1 : Shape := ⟨1, ![1]⟩
abbrev S352x7168 : Shape := ⟨2, ![352, 7168]⟩
abbrev S352x32 : Shape := ⟨2, ![352, 32]⟩
abbrev S28x256 : Shape := ⟨2, ![28, 256]⟩
abbrev S128x256 : Shape := ⟨2, ![128, 256]⟩
abbrev S1x256 : Shape := ⟨2, ![1, 256]⟩
abbrev S8x256 : Shape := ⟨2, ![8, 256]⟩
abbrev S128x1x256 : Shape := ⟨3, ![128, 1, 256]⟩
abbrev S128x2x256 : Shape := ⟨3, ![128, 2, 256]⟩
abbrev S256x256 : Shape := ⟨2, ![256, 256]⟩
abbrev S16x256 : Shape := ⟨2, ![16, 256]⟩
abbrev S7168x256 : Shape := ⟨2, ![7168, 256]⟩
abbrev S32x256 : Shape := ⟨2, ![32, 256]⟩
abbrev S11x1x32x256 : Shape := ⟨4, ![11, 1, 32, 256]⟩
abbrev S352x256 : Shape := ⟨2, ![352, 256]⟩
abbrev S24x512 : Shape := ⟨2, ![24, 512]⟩
abbrev S1x7168 : Shape := ⟨2, ![1, 7168]⟩
abbrev S128x7168 : Shape := ⟨2, ![128, 7168]⟩
abbrev S128x1x7168 : Shape := ⟨3, ![128, 1, 7168]⟩
abbrev S128x2x7168 : Shape := ⟨3, ![128, 2, 7168]⟩
abbrev S16x7168 : Shape := ⟨2, ![16, 7168]⟩
abbrev S512x7168 : Shape := ⟨2, ![512, 7168]⟩

abbrev nBuf : Space → Nat
  | .hbm => 19
  | .vmem => 39
  | .smem => 2
  | _ => 0

abbrev bufTy : (tb : Table) → Fin (tcTables nBuf tb) → BufTy
  | .hbm, ⟨0, _⟩ => ⟨S24x1x7168, .bf16⟩
  | .hbm, ⟨1, _⟩ => ⟨S24, .i32⟩
  | .hbm, ⟨2, _⟩ => ⟨S3584x40960, .i8⟩
  | .hbm, ⟨3, _⟩ => ⟨S56x40960, .bf16⟩
  | .hbm, ⟨4, _⟩ => ⟨S10240x7168, .i8⟩
  | .hbm, ⟨5, _⟩ => ⟨S160x7168, .bf16⟩
  | .hbm, ⟨6, _⟩ => ⟨S11x7168x64, .bf16⟩
  | .hbm, ⟨7, _⟩ => ⟨S11x2x32x20480, .bf16⟩
  | .hbm, ⟨8, _⟩ => ⟨S11x20480x32, .bf16⟩
  | .hbm, ⟨9, _⟩ => ⟨S11x32x7168, .bf16⟩
  | .hbm, ⟨10, _⟩ => ⟨S11, .f32⟩
  | .hbm, ⟨11, _⟩ => ⟨S24x7168, .bf16⟩
  | .hbm, ⟨12, _⟩ => ⟨S11x64x7168, .bf16⟩
  | .hbm, ⟨13, _⟩ => ⟨S11x32x20480, .bf16⟩
  | .hbm, ⟨14, _⟩ => ⟨S160x7168, .f32⟩
  | .hbm, ⟨15, _⟩ => ⟨S24x7168, .bf16⟩
  | .hbm, ⟨16, _⟩ => ⟨S24x20480, .bf16⟩
  | .hbm, ⟨17, _⟩ => ⟨S24x64, .bf16⟩
  | .hbm, ⟨18, _⟩ => ⟨S24x32, .bf16⟩
  | .local _ .vmem, ⟨0, _⟩ => ⟨S24x7168, .bf16⟩
  | .local _ .vmem, ⟨1, _⟩ => ⟨S11x64x7168, .bf16⟩
  | .local _ .vmem, ⟨2, _⟩ => ⟨S11x32x7168, .bf16⟩
  | .local _ .vmem, ⟨3, _⟩ => ⟨S11x32x256, .bf16⟩
  | .local _ .vmem, ⟨4, _⟩ => ⟨S11x32x256, .bf16⟩
  | .local _ .vmem, ⟨5, _⟩ => ⟨S11x32x256, .bf16⟩
  | .local _ .vmem, ⟨6, _⟩ => ⟨S11x32x256, .bf16⟩
  | .local _ .vmem, ⟨7, _⟩ => ⟨S3584x256, .i8⟩
  | .local _ .vmem, ⟨8, _⟩ => ⟨S3584x256, .i8⟩
  | .local _ .vmem, ⟨9, _⟩ => ⟨S3584x256, .i8⟩
  | .local _ .vmem, ⟨10, _⟩ => ⟨S3584x256, .i8⟩
  | .local _ .vmem, ⟨11, _⟩ => ⟨S3584x256, .i8⟩
  | .local _ .vmem, ⟨12, _⟩ => ⟨S3584x256, .i8⟩
  | .local _ .vmem, ⟨13, _⟩ => ⟨S3584x256, .i8⟩
  | .local _ .vmem, ⟨14, _⟩ => ⟨S3584x256, .i8⟩
  | .local _ .vmem, ⟨15, _⟩ => ⟨S56x256, .bf16⟩
  | .local _ .vmem, ⟨16, _⟩ => ⟨S56x256, .bf16⟩
  | .local _ .vmem, ⟨17, _⟩ => ⟨S56x256, .bf16⟩
  | .local _ .vmem, ⟨18, _⟩ => ⟨S56x256, .bf16⟩
  | .local _ .vmem, ⟨19, _⟩ => ⟨S56x256, .bf16⟩
  | .local _ .vmem, ⟨20, _⟩ => ⟨S56x256, .bf16⟩
  | .local _ .vmem, ⟨21, _⟩ => ⟨S56x256, .bf16⟩
  | .local _ .vmem, ⟨22, _⟩ => ⟨S56x256, .bf16⟩
  | .local _ .vmem, ⟨23, _⟩ => ⟨S11x2x32x256, .bf16⟩
  | .local _ .vmem, ⟨24, _⟩ => ⟨S11x2x32x256, .bf16⟩
  | .local _ .vmem, ⟨25, _⟩ => ⟨S11x2x32x256, .bf16⟩
  | .local _ .vmem, ⟨26, _⟩ => ⟨S11x2x32x256, .bf16⟩
  | .local _ .vmem, ⟨27, _⟩ => ⟨S256x7168, .i8⟩
  | .local _ .vmem, ⟨28, _⟩ => ⟨S256x7168, .i8⟩
  | .local _ .vmem, ⟨29, _⟩ => ⟨S160x7168, .f32⟩
  | .local _ .vmem, ⟨30, _⟩ => ⟨S24x7168, .bf16⟩
  | .local _ .vmem, ⟨31, _⟩ => ⟨S24x20480, .bf16⟩
  | .local _ .vmem, ⟨32, _⟩ => ⟨S24x64, .bf16⟩
  | .local _ .vmem, ⟨33, _⟩ => ⟨S24x32, .bf16⟩
  | .local _ .vmem, ⟨34, _⟩ => ⟨S32x7168, .bf16⟩
  | .local _ .vmem, ⟨35, _⟩ => ⟨S24x352, .bf16⟩
  | .local _ .vmem, ⟨36, _⟩ => ⟨S24x352, .bf16⟩
  | .local _ .vmem, ⟨37, _⟩ => ⟨S24x7168, .f32⟩
  | .local _ .vmem, ⟨38, _⟩ => ⟨S24x352, .f32⟩
  | .local _ .smem, ⟨0, _⟩ => ⟨S24, .i32⟩
  | .local _ .smem, ⟨1, _⟩ => ⟨S11, .f32⟩
  | _, _ => ⟨S24x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35

abbrev nD : Nat := 1
abbrev τ : Topo := Topo.v7x

variable {F : FTy → Type} [BitOps F]

abbrev grid0 : Pipeline.Grid := ⟨1, ![40], ![false]⟩

def k0_mult1 (i : grid0.Coords) : BitVec 32 :=
  let arg0 : BitVec 32 := BitVec.ofNat 32 (i 0).val
  let c256_i32 : BitVec 32 := 256#32
  let v3195 : BitVec 32 := Scalar.muli arg0 c256_i32
  v3195
def k0_off1 (i : grid0.Coords) : Fin 2 → Nat :=
  let c0_909 : Index := 0#32
  let arg0 : BitVec 32 := BitVec.ofNat 32 (i 0).val
  let c256_i32 : BitVec 32 := 256#32
  let v3195 : BitVec 32 := Scalar.muli arg0 c256_i32
  let v3196 : BitVec 32 := v3195
  let v3197 : Index := Scalar.indexCast v3196
  ![0, v3197.toNat]
def k0_mult2 (i : grid0.Coords) : BitVec 32 :=
  let c10240_i32 : BitVec 32 := 10240#32
  let arg0 : BitVec 32 := BitVec.ofNat 32 (i 0).val
  let c256_i32_910 : BitVec 32 := 256#32
  let v3199 : BitVec 32 := Scalar.muli arg0 c256_i32_910
  let v3200 : BitVec 32 := Scalar.addi c10240_i32 v3199
  v3200
def k0_off2 (i : grid0.Coords) : Fin 2 → Nat :=
  let c0_911 : Index := 0#32
  let c10240_i32 : BitVec 32 := 10240#32
  let arg0 : BitVec 32 := BitVec.ofNat 32 (i 0).val
  let c256_i32_910 : BitVec 32 := 256#32
  let v3199 : BitVec 32 := Scalar.muli arg0 c256_i32_910
  let v3200 : BitVec 32 := Scalar.addi c10240_i32 v3199
  let v3201 : BitVec 32 := v3200
  let v3202 : Index := Scalar.indexCast v3201
  ![0, v3202.toNat]
def k0_off3 (i : grid0.Coords) (c0_i32_948 : BitVec 32) : Fin 2 → Nat :=
  let arg0 : BitVec 32 := BitVec.ofNat 32 (i 0).val
  let c2_i32 : BitVec 32 := 2#32
  let v3315 : BitVec 32 := Scalar.muli arg0 c2_i32
  let v3316 : BitVec 32 := Scalar.addi v3315 c0_i32_948
  let v3317 : Index := Scalar.indexCast v3316
  let c0_949 : Index := 0#32
  ![v3317.toNat, 0]
def k0_off4 (i : grid0.Coords) (c0_i32_951 : BitVec 32) : Fin 2 → Nat :=
  let arg0 : BitVec 32 := BitVec.ofNat 32 (i 0).val
  let c2_i32_950 : BitVec 32 := 2#32
  let v3322 : BitVec 32 := Scalar.muli arg0 c2_i32_950
  let v3323 : BitVec 32 := Scalar.addi v3322 c0_i32_951
  let c80_i32 : BitVec 32 := 80#32
  let v3324 : BitVec 32 := Scalar.addi v3323 c80_i32
  let v3325 : Index := Scalar.indexCast v3324
  let c0_952 : Index := 0#32
  ![v3325.toNat, 0]
def k0_cond2 (i : grid0.Coords) : BitVec 1 :=
  let arg0 : BitVec 32 := BitVec.ofNat 32 (i 0).val
  let c39_i32 : BitVec 32 := 39#32
  let v3406 : BitVec 1 := Scalar.cmpi .eq arg0 c39_i32
  let v3407 : BitVec 32 := Scalar.extui v3406
  let c0_i32_981 : BitVec 32 := 0#32
  let v3408 : BitVec 1 := Scalar.cmpi .ne v3407 c0_i32_981
  v3408

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c120_i32 : BitVec 32 := 120#32
  let v0 : BitVec 32 := Scalar.addi c120_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c120_i32 : BitVec 32 := 120#32
  let v0 : BitVec 32 := Scalar.addi c120_i32 arg0
  let c0_i32 : BitVec 32 := 0#32
  let c0_i32_0 : BitVec 32 := 0#32
  ![c0_i32.toNat, v0.toNat]

def cc0_transform_15 (i : grid0.Coords) : Fin 4 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_16 (i : grid0.Coords) : Fin 4 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x64x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x32x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S11x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3584x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3584x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3584x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3584x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S56x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S56x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S56x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S56x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S11x2x32x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S11x2x32x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x7168 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S160x7168 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S24x7168 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S24x20480 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S24x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S24x32 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== KernelIdeal.lean ====
variable {F : FTy → Type} [FloatOps F]
-- ==== ReferenceIdeal.lean ====
abbrev S24x1x7168 : Shape := ⟨3, ![24, 1, 7168]⟩
abbrev S24 : Shape := ⟨1, ![24]⟩
abbrev S3584x40960 : Shape := ⟨2, ![3584, 40960]⟩
abbrev S56x40960 : Shape := ⟨2, ![56, 40960]⟩
abbrev S10240x7168 : Shape := ⟨2, ![10240, 7168]⟩
abbrev S160x7168 : Shape := ⟨2, ![160, 7168]⟩
abbrev S11x7168x64 : Shape := ⟨3, ![11, 7168, 64]⟩
abbrev S11x2x32x20480 : Shape := ⟨4, ![11, 2, 32, 20480]⟩
abbrev S11x20480x32 : Shape := ⟨3, ![11, 20480, 32]⟩
abbrev S11x32x7168 : Shape := ⟨3, ![11, 32, 7168]⟩
abbrev S11 : Shape := ⟨1, ![11]⟩
abbrev S24x7168 : Shape := ⟨2, ![24, 7168]⟩
abbrev S24x1 : Shape := ⟨2, ![24, 1]⟩
abbrev S1x11 : Shape := ⟨2, ![1, 11]⟩
abbrev S24x11 : Shape := ⟨2, ![24, 11]⟩
abbrev S_ : Shape := ⟨0, ![]⟩
abbrev S28x40960 : Shape := ⟨2, ![28, 40960]⟩
abbrev S28x128x40960 : Shape := ⟨3, ![28, 128, 40960]⟩
abbrev S28x1x40960 : Shape := ⟨3, ![28, 1, 40960]⟩
abbrev S24x3584 : Shape := ⟨2, ![24, 3584]⟩
abbrev S24x40960 : Shape := ⟨2, ![24, 40960]⟩
abbrev S24x11x64 : Shape := ⟨3, ![24, 11, 64]⟩
abbrev S24x64 : Shape := ⟨2, ![24, 64]⟩
abbrev S24x11x1x1 : Shape := ⟨4, ![24, 11, 1, 1]⟩
abbrev S24x1x2x32 : Shape := ⟨4, ![24, 1, 2, 32]⟩
abbrev S24x11x2x32 : Shape := ⟨4, ![24, 11, 2, 32]⟩
abbrev S2x20480x24 : Shape := ⟨3, ![2, 20480, 24]⟩
abbrev S24x2x20480 : Shape := ⟨3, ![24, 2, 20480]⟩
abbrev S24x1x20480 : Shape := ⟨3, ![24, 1, 20480]⟩
abbrev S24x20480 : Shape := ⟨2, ![24, 20480]⟩
abbrev S80x7168 : Shape := ⟨2, ![80, 7168]⟩
abbrev S80x128x7168 : Shape := ⟨3, ![80, 128, 7168]⟩
abbrev S80x1x7168 : Shape := ⟨3, ![80, 1, 7168]⟩
abbrev S24x10240 : Shape := ⟨2, ![24, 10240]⟩
abbrev S24x11x32 : Shape := ⟨3, ![24, 11, 32]⟩
abbrev S24x32 : Shape := ⟨2, ![24, 32]⟩
abbrev S24x11x1 : Shape := ⟨3, ![24, 11, 1]⟩
abbrev S24x1x32 : Shape := ⟨3, ![24, 1, 32]⟩

abbrev nBuf : Space → Nat
  | .hbm => 152
  | .vmem => 0
  | .smem => 0
  | _ => 0

abbrev hbmTy0_0 (i : Nat) : BufTy := match i % 128 with
  | 0 => ⟨S24x1x7168, .bf16⟩
  | 1 => ⟨S24, .i32⟩
  | 2 => ⟨S3584x40960, .i8⟩
  | 3 => ⟨S56x40960, .bf16⟩
  | 4 => ⟨S10240x7168, .i8⟩
  | 5 => ⟨S160x7168, .bf16⟩
  | 6 => ⟨S11x7168x64, .bf16⟩
  | 7 => ⟨S11x2x32x20480, .bf16⟩
  | 8 => ⟨S11x20480x32, .bf16⟩
  | 9 => ⟨S11x32x7168, .bf16⟩
  | 10 => ⟨S11, .f32⟩
  | 11 => ⟨S24x7168, .bf16⟩
  | 12 => ⟨S24x1, .i32⟩
  | 13 => ⟨S1x11, .i32⟩
  | 14 => ⟨S24x11, .i32⟩
  | 15 => ⟨S24x11, .i32⟩
  | 16 => ⟨S24x11, .i1⟩
  | 17 => ⟨S24x11, .f32⟩
  | 18 => ⟨S24x11, .bf16⟩
  | 19 => ⟨S_, .i32⟩
  | 20 => ⟨S24, .i32⟩
  | 21 => ⟨S24, .i1⟩
  | 22 => ⟨S_, .i32⟩
  | 23 => ⟨S24, .i32⟩
  | 24 => ⟨S24, .i32⟩
  | 25 => ⟨S24, .i32⟩
  | 26 => ⟨S24x1, .i32⟩
  | 27 => ⟨S24, .f32⟩
  | 28 => ⟨S3584x40960, .i32⟩
  | 29 => ⟨S_, .i32⟩
  | 30 => ⟨S3584x40960, .i32⟩
  | 31 => ⟨S3584x40960, .i32⟩
  | 32 => ⟨S_, .i32⟩
  | 33 => ⟨S3584x40960, .i32⟩
  | 34 => ⟨S3584x40960, .i32⟩
  | 35 => ⟨S_, .i32⟩
  | 36 => ⟨S3584x40960, .i32⟩
  | 37 => ⟨S3584x40960, .i1⟩
  | 38 => ⟨S_, .i32⟩
  | 39 => ⟨S3584x40960, .i32⟩
  | 40 => ⟨S3584x40960, .i32⟩
  | 41 => ⟨S3584x40960, .i32⟩
  | 42 => ⟨S_, .i32⟩
  | 43 => ⟨S3584x40960, .i32⟩
  | 44 => ⟨S3584x40960, .i1⟩
  | 45 => ⟨S_, .i32⟩
  | 46 => ⟨S3584x40960, .i32⟩
  | 47 => ⟨S3584x40960, .i32⟩
  | 48 => ⟨S3584x40960, .i32⟩
  | 49 => ⟨S3584x40960, .bf16⟩
  | 50 => ⟨S3584x40960, .bf16⟩
  | 51 => ⟨S28x40960, .bf16⟩
  | 52 => ⟨S28x128x40960, .bf16⟩
  | 53 => ⟨S28x1x40960, .bf16⟩
  | 54 => ⟨S28x128x40960, .bf16⟩
  | 55 => ⟨S28x128x40960, .bf16⟩
  | 56 => ⟨S3584x40960, .bf16⟩
  | 57 => ⟨S28x40960, .bf16⟩
  | 58 => ⟨S28x128x40960, .bf16⟩
  | 59 => ⟨S28x1x40960, .bf16⟩
  | 60 => ⟨S28x128x40960, .bf16⟩
  | 61 => ⟨S28x128x40960, .bf16⟩
  | 62 => ⟨S3584x40960, .bf16⟩
  | 63 => ⟨S24x3584, .bf16⟩
  | 64 => ⟨S24x40960, .f32⟩
  | 65 => ⟨S24x3584, .bf16⟩
  | 66 => ⟨S24x40960, .f32⟩
  | 67 => ⟨S24x40960, .f32⟩
  | 68 => ⟨S24x11x64, .f32⟩
  | 69 => ⟨S24x64, .f32⟩
  | 70 => ⟨S24x1, .f32⟩
  | 71 => ⟨S24x64, .f32⟩
  | 72 => ⟨S24x64, .f32⟩
  | 73 => ⟨S24x64, .bf16⟩
  | 74 => ⟨S24x11x1x1, .bf16⟩
  | 75 => ⟨S24x1x2x32, .bf16⟩
  | 76 => ⟨S24x11x2x32, .bf16⟩
  | 77 => ⟨S24x11x2x32, .bf16⟩
  | 78 => ⟨S24x11x2x32, .bf16⟩
  | 79 => ⟨S2x20480x24, .f32⟩
  | 80 => ⟨S24x2x20480, .f32⟩
  | 81 => ⟨S24x2x20480, .f32⟩
  | 82 => ⟨S24x2x20480, .f32⟩
  | 83 => ⟨S24x1x20480, .f32⟩
  | 84 => ⟨S24x20480, .f32⟩
  | 85 => ⟨S24x1x20480, .f32⟩
  | 86 => ⟨S24x20480, .f32⟩
  | 87 => ⟨S24x20480, .f32⟩
  | 88 => ⟨S24x20480, .f32⟩
  | 89 => ⟨S_, .f32⟩
  | 90 => ⟨S24x20480, .f32⟩
  | 91 => ⟨S24x20480, .f32⟩
  | 92 => ⟨S_, .f32⟩
  | 93 => ⟨S24x20480, .f32⟩
  | 94 => ⟨S24x20480, .f32⟩
  | 95 => ⟨S24x20480, .f32⟩
  | 96 => ⟨S24x20480, .f32⟩
  | 97 => ⟨S24x20480, .bf16⟩
  | 98 => ⟨S10240x7168, .i32⟩
  | 99 => ⟨S_, .i32⟩
  | 100 => ⟨S10240x7168, .i32⟩
  | 101 => ⟨S10240x7168, .i32⟩
  | 102 => ⟨S_, .i32⟩
  | 103 => ⟨S10240x7168, .i32⟩
  | 104 => ⟨S10240x7168, .i32⟩
  | 105 => ⟨S_, .i32⟩
  | 106 => ⟨S10240x7168, .i32⟩
  | 107 => ⟨S10240x7168, .i1⟩
  | 108 => ⟨S_, .i32⟩
  | 109 => ⟨S10240x7168, .i32⟩
  | 110 => ⟨S10240x7168, .i32⟩
  | 111 => ⟨S10240x7168, .i32⟩
  | 112 => ⟨S_, .i32⟩
  | 113 => ⟨S10240x7168, .i32⟩
  | 114 => ⟨S10240x7168, .i1⟩
  | 115 => ⟨S_, .i32⟩
  | 116 => ⟨S10240x7168, .i32⟩
  | 117 => ⟨S10240x7168, .i32⟩
  | 118 => ⟨S10240x7168, .i32⟩
  | 119 => ⟨S10240x7168, .bf16⟩
  | 120 => ⟨S10240x7168, .bf16⟩
  | 121 => ⟨S80x7168, .bf16⟩
  | 122 => ⟨S80x128x7168, .bf16⟩
  | 123 => ⟨S80x1x7168, .bf16⟩
  | 124 => ⟨S80x128x7168, .bf16⟩
  | 125 => ⟨S80x128x7168, .bf16⟩
  | 126 => ⟨S10240x7168, .bf16⟩
  | 127 => ⟨S80x7168, .bf16⟩
  | _ => ⟨S24x1x7168, .bf16⟩

abbrev hbmTy0_1 (i : Nat) : BufTy := match i % 128 with
  | 0 => ⟨S80x128x7168, .bf16⟩
  | 1 => ⟨S80x1x7168, .bf16⟩
  | 2 => ⟨S80x128x7168, .bf16⟩
  | 3 => ⟨S80x128x7168, .bf16⟩
  | 4 => ⟨S10240x7168, .bf16⟩
  | 5 => ⟨S24x10240, .bf16⟩
  | 6 => ⟨S24x7168, .f32⟩
  | 7 => ⟨S24x10240, .bf16⟩
  | 8 => ⟨S24x7168, .f32⟩
  | 9 => ⟨S24x7168, .f32⟩
  | 10 => ⟨S24x11x32, .f32⟩
  | 11 => ⟨S24x32, .f32⟩
  | 12 => ⟨S24x1, .f32⟩
  | 13 => ⟨S24x32, .f32⟩
  | 14 => ⟨S24x32, .f32⟩
  | 15 => ⟨S24x32, .bf16⟩
  | 16 => ⟨S24x11x1, .bf16⟩
  | 17 => ⟨S24x1x32, .bf16⟩
  | 18 => ⟨S24x11x32, .bf16⟩
  | 19 => ⟨S24x11x32, .bf16⟩
  | 20 => ⟨S24x11x32, .bf16⟩
  | 21 => ⟨S24x7168, .f32⟩
  | 22 => ⟨S24x7168, .f32⟩
  | 23 => ⟨S24x7168, .bf16⟩
  | _ => ⟨S24x1x7168, .bf16⟩

abbrev hbmTy (i : Nat) : BufTy := match i / 128 with
  | 0 => hbmTy0_0 i
  | 1 => hbmTy0_1 i
  | _ => ⟨S24x1x7168, .bf16⟩

abbrev bufTy : (tb : Table) → Fin (tcTables nBuf tb) → BufTy
  | .hbm, ⟨i, _⟩ => hbmTy i
  | _, _ => ⟨S24x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_8 : Ref sig .tc := ⟨.hbm, 99, rfl⟩
abbrev main_v73 : Ref sig .tc := ⟨.hbm, 100, rfl⟩
abbrev main_v74 : Ref sig .tc := ⟨.hbm, 101, rfl⟩
abbrev main_c_9 : Ref sig .tc := ⟨.hbm, 102, rfl⟩
abbrev main_v75 : Ref sig .tc := ⟨.hbm, 103, rfl⟩
abbrev main_v76 : Ref sig .tc := ⟨.hbm, 104, rfl⟩
abbrev main_c_10 : Ref sig .tc := ⟨.hbm, 105, rfl⟩
abbrev main_v77 : Ref sig .tc := ⟨.hbm, 106, rfl⟩
abbrev main_v78 : Ref sig .tc := ⟨.hbm, 107, rfl⟩
abbrev main_c_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_12 : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩

abbrev nD : Nat := 1
abbrev τ : Topo := Topo.v7x

variable {F : FTy → Type} [FloatOps F]
-- ==== Proof.KSetup.lean ====
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the long axes of the blocks need deep recursion
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      (Pipeline.RDat.FramePost.arr_in h c 10 rfl).trans ((hA c 10).trans (V_main_arg2 m c)),
      (Pipeline.RDat.FramePost.arr_in h c 14 rfl).trans ((hA c 14).trans (V_main_arg3 m c)),
      (Pipeline.RDat.FramePost.arr_in h c 17 rfl).trans ((hA c 17).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 16 rfl).trans ((hA c 16).trans (V_main_arg7 m c)),
      ((h c).2 main_arg8 (Pipeline.mem_restRefs_of main_arg8 (by decide) (by decide))).trans (V_main_arg8 m c),
      (Pipeline.RDat.FramePost.arr_in h c 4 rfl).trans ((hA c 4).trans (V_main_arg9 m c)),
      (Pipeline.RDat.FramePost.arr_in h c 1 rfl).trans ((hA c 1).trans (V_main_arg10 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, k0_cond1, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 40 = 39 :=
  (fun t => by
    have ht : t.val < 40 := Nat.lt_of_lt_of_eq t.isLt N_0
    have e0 : (grid0.coords t 0).val = t.val / 1 % 40 := Pipeline.Grid.coords_val t 0 (by decide) rfl
    simp only [cond0_1, k0_cond2, e0]
    word_cmp
   : ∀ t : Fin grid0.N, cond0_1 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S24 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S11 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S11x64x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S11x32x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S11x32x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S11x32x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3584x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3584x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3584x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3584x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S56x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S56x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S56x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S56x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S11x2x32x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S11x2x32x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x7168 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S160x7168 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S24x7168 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S24x20480 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S24x64 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S24x32 .bf16 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S32x7168 .bf16 := Memref.whole cc0_scratch0
abbrev scM0_1 : Memref sig .tc .vmem S24x352 .bf16 := Memref.whole cc0_scratch1
abbrev scM0_2 : Memref sig .tc .vmem S24x352 .bf16 := Memref.whole cc0_scratch2
abbrev scM0_3 : Memref sig .tc .vmem S24x7168 .f32 := Memref.whole cc0_scratch3
abbrev scM0_4 : Memref sig .tc .vmem S24x352 .f32 := Memref.whole cc0_scratch4
/-- The scratch `arg24` the kernel carries between points, as a view: what it holds is stated through it. -/
abbrev VS0_0 : View sig .tc .vmem S32x7168 .bf16 := scM0_0.view
/-- The scratch `arg25` the kernel carries between points, as a view: what it holds is stated through it. -/
abbrev VS0_1 : View sig .tc .vmem S24x352 .bf16 := scM0_1.view
/-- The scratch `arg26` the kernel carries between points, as a view: what it holds is stated through it. -/
abbrev VS0_2 : View sig .tc .vmem S24x352 .bf16 := scM0_2.view
/-- The scratch `arg27` the kernel carries between points, as a view: what it holds is stated through it. -/
abbrev VS0_3 : View sig .tc .vmem S24x7168 .f32 := scM0_3.view
/-- The scratch `arg28` the kernel carries between points, as a view: what it holds is stated through it. -/
abbrev VS0_4 : View sig .tc .vmem S24x352 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What one call of the body does, with nothing said of the values -/

/-- One call of the kernel body on whole buffers: the inputs are handed back as they were, every output and every
    scratch buffer is handed back at some contents. -/
def BodyTriple (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_mlp_lora_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K

end Cert.Kernel.Body

end
-- ==== Proof.KRunA.lean ====
module

public import proofs.«01_k».proof.Proof.KSetup

/-! The kernel's body over any floats run through once, at the first step (grid point 0): the scratch is filled, then the step's tile. Only what is owned is stated. -/

@[expose] public section

-- the long axes of the blocks need deep recursion
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 1600000 in
/-- The body runs at the first point, and hands its buffers back. -/
theorem bodyRun_A (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32)
    (hc0 : cond0_0 i) (hc1 : ¬cond0_1 i) :
    BodyTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro E K
  simp only [cc0_mlp_lora_decode_eq_skeleton]; unfold cc0_mlp_lora_decode_skel
  simp only [k0_part119_eq_skeleton, k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Kernel.Body

end
-- ==== Proof.KRunB.lean ====
module

public import proofs.«01_k».proof.Proof.KRunA

/-! The kernel's body over any floats run through once, at a step between the first and the last. Only what is owned is stated. -/

@[expose] public section

-- the long axes of the blocks need deep recursion
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 1600000 in
/-- The body runs at a middle point, and hands its buffers back. -/
theorem bodyRun_B (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32)
    (hc0 : ¬cond0_0 i) (hc1 : ¬cond0_1 i) :
    BodyTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro E K
  simp only [cc0_mlp_lora_decode_eq_skeleton]; unfold cc0_mlp_lora_decode_skel
  simp only [k0_part119_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Kernel.Body

end
-- ==== Proof.KRunC.lean ====
module

public import proofs.«01_k».proof.Proof.KRunB

/-! The kernel's body over any floats run through once, at the last step: its tile, then the results `t` and `out`. Only what is owned is stated. -/

@[expose] public section

-- the long axes of the blocks need deep recursion
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option maxHeartbeats 1600000 in
/-- The body runs at the last point, and hands its buffers back. -/
theorem bodyRun_C (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32)
    (hc0 : ¬cond0_0 i) (hc1 : cond0_1 i) :
    BodyTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro E K
  simp only [cc0_mlp_lora_decode_eq_skeleton]; unfold cc0_mlp_lora_decode_skel
  simp only [k0_part119_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part44_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Kernel.Body

end
-- ==== Proof.KFrame.lean ====
module

public import proofs.«01_k».proof.Proof.KRunC
public import Idealize.ShloMosaic.Lib.Claim

@[expose] public section

-- the long axes of the blocks need deep recursion
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The proof data: the inputs at their blocks, the four outputs at anything -/

/-- The outputs (windows 19 to 22): nothing is said of what they hold. -/
def forgets0 : Fin 23 → Bool := fun w => w.val == 19 || w.val == 20 || w.val == 21 || w.val == 22

/-- The arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! What the body leaves in each input's buffer, and what it finds there: the window's block. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
theorem leaves0_12 (c : Dev nD) (t : Fin cfg0.N) :
    (dats m 0 c).leavesExact 12 t = owns (c : Thread nD τ) (ms0_12 t) fullShare (iblk m c 12 t) := by
  unfold Dat.leavesExact; rw [liveAt0_12 t, after0_12]
theorem leaves0_13 (c : Dev nD) (t : Fin cfg0.N) :
    (dats m 0 c).leavesExact 13 t = owns (c : Thread nD τ) (ms0_13 t) fullShare (iblk m c 13 t) := by
  unfold Dat.leavesExact; rw [liveAt0_13 t, after0_13]
theorem leaves0_14 (c : Dev nD) (t : Fin cfg0.N) :
    (dats m 0 c).leavesExact 14 t = owns (c : Thread nD τ) (ms0_14 t) fullShare (iblk m c 14 t) := by
  unfold Dat.leavesExact; rw [liveAt0_14 t, after0_14]
theorem leaves0_15 (c : Dev nD) (t : Fin cfg0.N) :
    (dats m 0 c).leavesExact 15 t = owns (c : Thread nD τ) (ms0_15 t) fullShare (iblk m c 15 t) := by
  unfold Dat.leavesExact; rw [liveAt0_15 t, after0_15]
theorem leaves0_16 (c : Dev nD) (t : Fin cfg0.N) :
    (dats m 0 c).leavesExact 16 t = owns (c : Thread nD τ) (ms0_16 t) fullShare (iblk m c 16 t) := by
  unfold Dat.leavesExact; rw [liveAt0_16 t, after0_16]
theorem leaves0_17 (c : Dev nD) (t : Fin cfg0.N) :
    (dats m 0 c).leavesExact 17 t = owns (c : Thread nD τ) (ms0_17 t) fullShare (iblk m c 17 t) := by
  unfold Dat.leavesExact; rw [liveAt0_17 t, after0_17]
theorem leaves0_18 (c : Dev nD) (t : Fin cfg0.N) :
    (dats m 0 c).leavesExact 18 t = owns (c : Thread nD τ) (ms0_18 t) fullShare (iblk m c 18 t) := by
  unfold Dat.leavesExact; rw [liveAt0_18 t, after0_18]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d))

/-- The body's triple at any point: one of the three cases. -/
theorem triple_at (c : Dev nD) (t : Fin cfg0.N) :
    BodyTriple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  have hN : t.val < 40 := lt_of_lt_of_eq t.isLt (show cfg0.N = 40 from N_0)
  by_cases h0 : t.val % 40 = 0
  · exact bodyRun_A c (grid0.coords t) _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _
      ((hcond0_0 t).mpr h0) (fun h => absurd ((hcond0_1 t).mp h) (by omega))
  · by_cases h1 : t.val % 40 = 39
    · exact bodyRun_C c (grid0.coords t) _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _
        (fun h => h0 ((hcond0_0 t).mp h)) ((hcond0_1 t).mpr h1)
    · exact bodyRun_B c (grid0.coords t) _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _
        (fun h => h0 ((hcond0_0 t).mp h)) (fun h => h1 ((hcond0_1 t).mp h))

set_option maxHeartbeats 3200000 in
/-- The body at any point, as the pipeline calls it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22⟩
  iapply (triple_at m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 19, 20, 21, 22) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- The frame: the arguments unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Body

end
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the long axes of the blocks need deep recursion
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      (Pipeline.RDat.FramePost.arr_in h c 10 rfl).trans ((hA c 10).trans (V_main_arg2 m c)),
      (Pipeline.RDat.FramePost.arr_in h c 14 rfl).trans ((hA c 14).trans (V_main_arg3 m c)),
      (Pipeline.RDat.FramePost.arr_in h c 17 rfl).trans ((hA c 17).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 16 rfl).trans ((hA c 16).trans (V_main_arg7 m c)),
      ((h c).2 main_arg8 (Pipeline.mem_restRefs_of main_arg8 (by decide) (by decide))).trans (V_main_arg8 m c),
      (Pipeline.RDat.FramePost.arr_in h c 4 rfl).trans ((hA c 4).trans (V_main_arg9 m c)),
      (Pipeline.RDat.FramePost.arr_in h c 1 rfl).trans ((hA c 1).trans (V_main_arg10 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, k0_cond1, e0]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 40 = 39 :=
  (fun t => by
    have ht : t.val < 40 := Nat.lt_of_lt_of_eq t.isLt N_0
    have e0 : (grid0.coords t 0).val = t.val / 1 % 40 := Pipeline.Grid.coords_val t 0 (by decide) rfl
    simp only [cond0_1, k0_cond2, e0]
    word_cmp
   : ∀ t : Fin grid0.N, cond0_1 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S24 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S11 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S11x64x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S11x32x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S11x32x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S11x32x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3584x256 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3584x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3584x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3584x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S56x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S56x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S56x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S56x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S11x2x32x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S11x2x32x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x7168 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S160x7168 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S24x7168 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S24x20480 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S24x64 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S24x32 .bf16 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S32x7168 .bf16 := Memref.whole cc0_scratch0
abbrev scM0_1 : Memref sig .tc .vmem S24x352 .bf16 := Memref.whole cc0_scratch1
abbrev scM0_2 : Memref sig .tc .vmem S24x352 .bf16 := Memref.whole cc0_scratch2
abbrev scM0_3 : Memref sig .tc .vmem S24x7168 .f32 := Memref.whole cc0_scratch3
abbrev scM0_4 : Memref sig .tc .vmem S24x352 .f32 := Memref.whole cc0_scratch4
/-- The scratch `arg24` the kernel carries between points, as a view: what it holds is stated through it. -/
abbrev VS0_0 : View sig .tc .vmem S32x7168 .bf16 := scM0_0.view
/-- The scratch `arg25` the kernel carries between points, as a view: what it holds is stated through it. -/
abbrev VS0_1 : View sig .tc .vmem S24x352 .bf16 := scM0_1.view
/-- The scratch `arg26` the kernel carries between points, as a view: what it holds is stated through it. -/
abbrev VS0_2 : View sig .tc .vmem S24x352 .bf16 := scM0_2.view
/-- The scratch `arg27` the kernel carries between points, as a view: what it holds is stated through it. -/
abbrev VS0_3 : View sig .tc .vmem S24x7168 .f32 := scM0_3.view
/-- The scratch `arg28` the kernel carries between points, as a view: what it holds is stated through it. -/
abbrev VS0_4 : View sig .tc .vmem S24x352 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.Spec.lean ====
module

public import Idealize.ShloMosaic.PureOps.Ideal.Laws
public import Idealize.ShloMosaic.Lib.Pointwise

/-! The mathematics of the layer, over the extended reals: what both programs compute, written index by index. -/

@[expose] public section

noncomputable section

namespace Cert.Spec

open Idealize.ShloMosaic
open scoped BigOperators

/-- The eleven arguments, as plain functions of their coordinates. -/
structure Args where
  x : Fin 24 → Fin 7168 → EReal
  idx : Fin 24 → BitVec 32
  gc : Fin 3584 → Fin 40960 → BitVec 8
  gs : Fin 56 → Fin 40960 → EReal
  dc : Fin 10240 → Fin 7168 → BitVec 8
  ds : Fin 160 → Fin 7168 → EReal
  ag : Fin 11 → Fin 7168 → Fin 64 → EReal
  bg : Fin 11 → Fin 2 → Fin 32 → Fin 20480 → EReal
  ad : Fin 11 → Fin 20480 → Fin 32 → EReal
  bd : Fin 11 → Fin 32 → Fin 7168 → EReal
  sc : Fin 11 → EReal

/-- The signed 4-bit integer in the low (`0`) or the high (`1`) half of a byte. -/
def nib (p : Fin 2) (v : BitVec 8) : ℤ := ((v >>> (4 * p.val)).setWidth 4).toInt

/-- An integer as an extended real. -/
def q (z : ℤ) : EReal := ((z : ℝ) : EReal)

/-- The logistic function. -/
def sig (x : EReal) : EReal := Ideal.div 1 (1 + Ideal.exp (-x))

namespace Args
variable (A : Args)

/-- The dequantized gate/up weight of input row `3584 * p + i`. -/
def wg (p : Fin 2) (i : Fin 3584) (f : Fin 40960) : EReal :=
  q (nib p (A.gc i f)) * A.gs ⟨28 * p.val + i.val / 128, by omega⟩ f

/-- The quantized gate/up projection. -/
def lin (b : Fin 24) (f : Fin 40960) : EReal :=
  (∑ i : Fin 3584, A.x b ⟨i.val, by omega⟩ * A.wg 0 i f) + ∑ i : Fin 3584, A.x b ⟨3584 + i.val, by omega⟩ * A.wg 1 i f

/-- Row `b` uses adapter `n`. -/
def hit (b : Fin 24) (n : Fin 11) : Prop := A.idx b = BitVec.ofNat 32 n.val

instance (b : Fin 24) (n : Fin 11) : Decidable (A.hit b n) := inferInstanceAs (Decidable (_ = _))

/-- The scaled low-rank input of gate/up, placed at the row's adapter and zero at the others. -/
def mg (b : Fin 24) (n : Fin 11) (c : Fin 64) : EReal :=
  if A.hit b n then (∑ d : Fin 7168, A.x b d * A.ag n d c) * A.sc n else 0

/-- The result `s`. -/
def s (b : Fin 24) (c : Fin 64) : EReal := ∑ n : Fin 11, A.mg b n c

/-- The low-rank addition to gate (`t = 0`) or up (`t = 1`). -/
def delta (b : Fin 24) (t : Fin 2) (f : Fin 20480) : EReal :=
  ∑ n : Fin 11, ∑ r : Fin 32, A.mg b n ⟨32 * t.val + r.val, by omega⟩ * A.bg n t r f

/-- Gate (`t = 0`) or up (`t = 1`) before the activation. -/
def gu (b : Fin 24) (t : Fin 2) (f : Fin 20480) : EReal :=
  A.lin b ⟨20480 * t.val + f.val, by omega⟩ + A.delta b t f

/-- The result `h`. -/
def h (b : Fin 24) (f : Fin 20480) : EReal := A.gu b 0 f * sig (A.gu b 0 f) * A.gu b 1 f

/-- The dequantized down weight of input row `10240 * p + i`. -/
def wd (p : Fin 2) (i : Fin 10240) (d : Fin 7168) : EReal :=
  q (nib p (A.dc i d)) * A.ds ⟨80 * p.val + i.val / 128, by omega⟩ d

/-- The quantized down projection. -/
def y (b : Fin 24) (d : Fin 7168) : EReal :=
  (∑ i : Fin 10240, A.h b ⟨i.val, by omega⟩ * A.wd 0 i d) + ∑ i : Fin 10240, A.h b ⟨10240 + i.val, by omega⟩ * A.wd 1 i d

/-- The scaled low-rank input of down, placed at the row's adapter and zero at the others. -/
def md (b : Fin 24) (n : Fin 11) (r : Fin 32) : EReal :=
  if A.hit b n then (∑ f : Fin 20480, A.h b f * A.ad n f r) * A.sc n else 0

/-- The result `t`. -/
def t (b : Fin 24) (r : Fin 32) : EReal := ∑ n : Fin 11, A.md b n r

/-- The result `out`. -/
def out (b : Fin 24) (d : Fin 7168) : EReal :=
  A.y b d + ∑ n : Fin 11, ∑ r : Fin 32, A.md b n r * A.bd n r d

theorem hit_unique {b : Fin 24} {n k : Fin 11} (hn : A.hit b n) (hk : A.hit b k) : n = k := by
  have h : BitVec.ofNat 32 n.val = BitVec.ofNat 32 k.val := hn.symm.trans hk
  have := congrArg BitVec.toNat h
  simp only [BitVec.toNat_ofNat] at this
  exact Fin.ext (by omega)

/-- The row's adapter picked by a sum against its indicator, then scaled by a number that is the adapter's scale
    whenever the row has one: the sum of the values placed at the row's adapter. -/
theorem pick (b : Fin 24) (a : Fin 11 → EReal) (c : EReal) (hc : ∀ n, A.hit b n → c = A.sc n) :
    (∑ n : Fin 11, (if A.hit b n then (1 : EReal) else 0) * a n) * c = ∑ n : Fin 11, if A.hit b n then a n * A.sc n else 0 := by
  by_cases h : ∃ n, A.hit b n
  · obtain ⟨n, hn⟩ := h
    rw [Finset.sum_eq_single n, Finset.sum_eq_single n]
    · rw [if_pos hn, if_pos hn, one_mul, hc n hn]
    · intro k _ hk; rw [if_neg (fun hh => hk (A.hit_unique hh hn))]
    · simp
    · intro k _ hk; rw [if_neg (fun hh => hk (A.hit_unique hh hn)), zero_mul]
    · simp
  · have h' : ∀ n, ¬ A.hit b n := fun n hn => h ⟨n, hn⟩
    simp [h']

/-- The indicator times the sum over the adapters of values placed at the row's adapter: the value there. -/
theorem place (b : Fin 24) (a : Fin 11 → EReal) (n : Fin 11) :
    (if A.hit b n then (1 : EReal) else 0) * (∑ k : Fin 11, if A.hit b k then a k else 0) = if A.hit b n then a n else 0 := by
  by_cases hn : A.hit b n
  · rw [if_pos hn, if_pos hn, one_mul, Finset.sum_eq_single n, if_pos hn]
    · intro k _ hk; rw [if_neg (fun hh => hk (A.hit_unique hh hn))]
    · simp
  · rw [if_neg hn, if_neg hn, zero_mul]

end Args

end Cert.Spec

end
-- ==== Proof.Blocks.lean ====
module

public import proofs.«01_k».proof.Proof.Gen.KernelIdeal.Skeleton
public import proofs.«01_k».proof.Proof.Spec
public import Idealize.ShloMosaic.Lib.Pipeline.Value

/-! The dequantized gate/up weight as the kernel builds it: 28 groups of 256 rows, each from 128 rows of codes (two
    4-bit integers a byte) and two rows of scales that alternate. -/

@[expose] public section

set_option maxRecDepth 16384

noncomputable section

namespace Cert.KernelIdeal.Body

open Cert.KernelIdeal Cert.KernelIdeal.Gen
open Idealize.ShloMosaic Idealize.ShloMosaic.Pointwise

variable {F : FTy → Type} [FloatOps F]

/-- One group of gate/up weights: row `r` has the 4-bit integer `r % 2` of code row `r / 2`, times scale row `a` (even `r`)
    or `b` (odd `r`). -/
def deq (a b : FVec F S1x256 .bf16) (v : Vec F S128x256 .i8) : FVec F S256x256 .bf16 :=
  mulf (sitofp .bf16 (shrsi (shli
      (shapeCast S256x256 (broadcastTo S128x2x256 (shapeCast S128x1x256 (shapeCast S128x1x256 (extui 32 v natLt_8_32)
        shapeCasts_S128x256_S128x1x256) shapeCasts_S128x1x256_S128x1x256) broadcasts_S128x1x256_S128x2x256) shapeCasts_S128x2x256_S256x256)
      (subi (broadcast S256x256 28#32) (muli (broadcast S256x256 4#32)
        (andi (iota .tc S256x256 32 [0] iota_S256x256_d0_w32) (broadcast S256x256 1#32)))))
      (broadcast S256x256 28#32)))
    (concatenate S256x256 0 (List.replicate 16 ⟨S16x256, interleaveRows S16x256
      (concatenate S8x256 0 (List.replicate 8 ⟨S1x256, a⟩) concatenates_S1x256_S1x256_S1x256_S1x256_S1x256_S1x256_S1x256_S1x256_S8x256_d0)
      (concatenate S8x256 0 (List.replicate 8 ⟨S1x256, b⟩) concatenates_S1x256_S1x256_S1x256_S1x256_S1x256_S1x256_S1x256_S1x256_S8x256_d0)
      bitcasts_S16x256_w16_S8x256_w32⟩) concatenates_S16x256_S16x256_S16x256_S16x256_S16x256_S16x256_S16x256_S16x256_S16x256_S16x256_S16x256_S16x256_S16x256_S16x256_S16x256_S16x256_S256x256_d0)

/-- Scale row `g` of a block of 56, taken as the kernel takes it: from the rows of `g`'s parity. -/
theorem slices_row (g : Fin 56) : S28x256.Slices ![g.val / 2, 0] S1x256 := by
  revert g; decide

def srow (v : Vec F S56x256 .bf16) (g : Fin 56) : FVec F S1x256 .bf16 :=
  extractStridedSlice S1x256 ![g.val / 2, 0]
    (rowsOfParity ⟨g.val % 2, Nat.mod_lt _ (by decide)⟩ S28x256 v bitcasts_S56x256_w16_S28x256_w32) (slices_row g)

/-- The whole weight block: 28 groups, group `g` scaled by rows `g` and `g + 28`. -/
def wblk (v : Vec F S56x256 .bf16) (cs : Fin 28 → Vec F S128x256 .i8) : FVec F S7168x256 .bf16 :=
  concatenate S7168x256 0 (List.ofFn fun g : Fin 28 => ⟨S256x256, deq (srow v ⟨g.val, by omega⟩) (srow v ⟨g.val + 28, by omega⟩) (cs g)⟩)
    concatenates_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S7168x256_d0

end Cert.KernelIdeal.Body

namespace Cert.KernelIdeal.Body
open Cert.KernelIdeal Cert.KernelIdeal.Gen
open Idealize.ShloMosaic Idealize.ShloMosaic.Pointwise

/-- The kernel's shifts of a byte are its 4-bit integer. -/
theorem nib_even (v : BitVec 8) : (((v.setWidth 32) <<< 28).sshiftRight 28).toInt = Spec.nib 0 v := by revert v; decide
theorem nib_odd (v : BitVec 8) : (((v.setWidth 32) <<< 24).sshiftRight 28).toInt = Spec.nib 1 v := by revert v; decide

theorem deq_at (a b : FVec Ideal S1x256 .bf16) (v : Vec Ideal S128x256 .i8) (r f : Fin 256) :
    deq a b v (ix2 r f) = Spec.q (Spec.nib ⟨r.val % 2, Nat.mod_lt _ (by decide)⟩ (v (ix2 (⟨r.val / 2, by omega⟩ : Fin 128) f)))
      * (if r.val % 2 = 0 then a (ix2 (0 : Fin 1) f) else b (ix2 (0 : Fin 1) f)) := by
  unfold deq
  have h8 : ∀ (x : FVec Ideal S1x256 .bf16) (hc : _) (i : Fin 8), concatenate S8x256 0 (List.replicate 8 ⟨S1x256, x⟩) hc (ix2 i f) = x (ix2 (0 : Fin 1) f) :=
    fun x hc i => concatenate_replicate_apply (t := S8x256) (s₁ := S1x256) 0 8 x hc rfl (ix2 i f) (ix2 (0 : Fin 1) f) (by simp [ix2, Nat.mod_one])
      (fun b hb => by fin_cases b <;> simp_all [ix2])
  rw [show ∀ (x y : FVec Ideal S256x256 .bf16), mulf x y (ix2 r f) = x (ix2 r f) * y (ix2 r f) from fun _ _ => rfl]
  congr 1
  · pointwise
    rcases Nat.mod_two_eq_zero_or_one r.val with h | h
    · rw [show IntOp.subi (28#32) (IntOp.muli (4#32) (IntOp.andi (BitVec.ofNat 32 r.val) 1#32)) = 28#32 from by
        rw [show IntOp.andi (BitVec.ofNat 32 r.val) 1#32 = 0#32 from by
          apply BitVec.eq_of_toNat_eq; simp [IntOp.andi, Nat.and_one_is_mod]; omega]
        rfl]
      have := nib_even (v (ix2 (⟨r.val / 2, by omega⟩ : Fin 128) f))
      simp only [h]
      exact congrArg (fun z : ℤ => ((z : ℝ) : EReal)) this
    · rw [show IntOp.subi (28#32) (IntOp.muli (4#32) (IntOp.andi (BitVec.ofNat 32 r.val) 1#32)) = 24#32 from by
        rw [show IntOp.andi (BitVec.ofNat 32 r.val) 1#32 = 1#32 from by
          apply BitVec.eq_of_toNat_eq; simp [IntOp.andi, Nat.and_one_is_mod]; omega]
        rfl]
      have := nib_odd (v (ix2 (⟨r.val / 2, by omega⟩ : Fin 128) f))
      simp only [h]
      exact congrArg (fun z : ℤ => ((z : ℝ) : EReal)) this
  · rw [concatenate_replicate_apply (t := S256x256) (s₁ := S16x256) 0 16 _ _ rfl (ix2 r f) (ix2 (⟨r.val % 16, by omega⟩ : Fin 16) f) (by simp [ix2])
      (fun b hb => by fin_cases b <;> simp_all [ix2])]
    pointwise
    simp only [h8]
    have : r.val % 16 % 2 = r.val % 2 := by omega
    simp [this]

theorem srow_at (v : Vec Ideal S56x256 .bf16) (g : Fin 56) (f : Fin 256) : srow v g (ix2 (0 : Fin 1) f) = v (ix2 g f) := by
  unfold srow
  pointwise
  congr 2
  apply Fin.ext
  show 2 * (g.val / 2) + g.val % 2 = g.val
  omega

/-- The weight block at row `k`: code row `k / 2`, its 4-bit integer `k % 2`, scale row `k / 256` or `k / 256 + 28`. -/
theorem wblk_at (v : Vec Ideal S56x256 .bf16) (cs : Fin 28 → Vec Ideal S128x256 .i8) (k : Fin 7168) (f : Fin 256) :
    wblk v cs (ix2 k f) = Spec.q (Spec.nib ⟨k.val % 2, Nat.mod_lt _ (by decide)⟩
        (cs ⟨k.val / 256, by omega⟩ (ix2 (⟨k.val % 256 / 2, by omega⟩ : Fin 128) f)))
      * v (ix2 (⟨k.val / 256 + 28 * (k.val % 2), by omega⟩ : Fin 56) f) := by
  unfold wblk
  refine (concatenate_ofFn_apply (t := S7168x256) (s₁ := S256x256) 0
    (fun g : Fin 28 => deq (srow v ⟨g.val, by omega⟩) (srow v ⟨g.val + 28, by omega⟩) (cs g)) _ rfl 256 rfl (ix2 k f) ⟨k.val / 256, by omega⟩ rfl
    (ix2 (⟨k.val % 256, by omega⟩ : Fin 256) f) (by simp [ix2]) (fun b hb => by fin_cases b <;> simp_all [ix2])).trans ?_
  rw [deq_at, srow_at, srow_at]
  have h2 : k.val % 256 % 2 = k.val % 2 := by omega
  rcases Nat.mod_two_eq_zero_or_one k.val with h | h <;> simp [h2, h]

end Cert.KernelIdeal.Body
-- ==== Proof.Blocks2.lean ====
module

public import proofs.«01_k».proof.Proof.Blocks
public import Idealize.ShloMosaic.Lib.WholeRead

/-! The parts of one step of the kernel, each as one function of the vectors it loads, and what each computes. -/

@[expose] public section

set_option maxRecDepth 16384

noncomputable section

namespace Cert.KernelIdeal.Body

open Cert.KernelIdeal Cert.KernelIdeal.Gen
open Idealize.ShloMosaic Idealize.ShloMosaic.Pointwise
open scoped BigOperators

section Defs
variable {F : FTy → Type} [FloatOps F]

/-- Gate or up of 256 columns: the quantized product, plus the low-rank part. -/
def gate (xi : Vec F S32x7168 .bf16) (m : Vec F S24x352 .bf16) (v : Vec F S56x256 .bf16) (cs : Fin 28 → Vec F S128x256 .i8)
    (bl : Vec F S11x1x32x256 .bf16) : FVec F S24x256 .f32 :=
  addf (extractStridedSlice S24x256 ![0, 0]
      (matmul dot_S32x7168_S7168x256_S32x256_1_0_0_1_n_n none xi (wblk v cs) (constant S32x256 .f32 0x00000000#32)) slices_S32x256_o0_0_S24x256)
    (matmul dot_S24x352_S352x256_S24x256_1_0_0_1_n_n none m
      (shapeCast S352x256 (shapeCast S11x32x256 bl shapeCasts_S11x1x32x256_S11x32x256) shapeCasts_S11x32x256_S352x256)
      (constant S24x256 .f32 0x00000000#32))

/-- The activation. -/
def act (g u : FVec F S24x256 .f32) : FVec F S24x256 .bf16 := truncf .bf16 (mulf (mulf g (logistic g)) u) bitsLt_bf16_f32

/-- The low-rank input of down, accumulated: the two halves' columns added to what is there. -/
def tstep (hlo hhi : FVec F S24x256 .bf16) (tacc : Vec F S24x352 .f32) (alo ahi : Vec F S11x32x256 .bf16) : FVec F S24x352 .f32 :=
  addf tacc (addf
    (matmul dot_S24x256_S352x256_S24x352_1_1_0_0_n_n none hlo (shapeCast S352x256 (shapeCast S11x32x256 alo shapeCasts_S11x32x256_S11x32x256) shapeCasts_S11x32x256_S352x256) (constant S24x352 .f32 0x00000000#32))
    (matmul dot_S24x256_S352x256_S24x352_1_1_0_0_n_n none hhi (shapeCast S352x256 (shapeCast S11x32x256 ahi shapeCasts_S11x32x256_S11x32x256) shapeCasts_S11x32x256_S352x256) (constant S24x352 .f32 0x00000000#32)))

/-- The lane numbers of one 128-lane piece. -/
def lane : IVec S24x128 32 := iota .tc S24x128 32 [1] iota_S24x128_d1_w32

/-- The lane each lane of piece `p` takes its value from, as the kernel computes it (a negative one wraps around). -/
def src (p : BitVec 32) : IVec S24x128 32 :=
  have i : IVec S24x128 32 := addi (shrsi lane (broadcast S24x128 1#32)) (broadcast S24x128 p)
  shapeCast S24x128 (shapeCast S24x128x1 (select (cmpi .slt i (broadcast S24x128 0#32)) (addi i (broadcast S24x128 128#32)) i)
    shapeCasts_S24x128_S24x128x1) shapeCasts_S24x128x1_S24x128

/-- Half of two 128-lane pieces interleaved: even lanes from `a`, odd lanes from `b`. -/
def ilv1 (p : BitVec 32) (a b : FVec F S24x128 .f32) : FVec F S24x128 .f32 :=
  select (cmpi .eq (andi lane (broadcast S24x128 1#32)) (broadcast S24x128 0#32)) (dynamicGather 1 a (src p)) (dynamicGather 1 b (src p))

/-- Four 128-lane pieces that interleave two 256-lane halves: even columns from `a`, odd columns from `b`. -/
def ilv (a b : FVec F S24x256 .bf16) : FVec F S24x512 .bf16 :=
  have a0 := extractStridedSlice S24x128 ![0, 0] (extf .f32 a bitsLt_bf16_f32) slices_S24x256_o0_0_S24x128
  have b0 := extractStridedSlice S24x128 ![0, 0] (extf .f32 b bitsLt_bf16_f32) slices_S24x256_o0_0_S24x128
  have a1 := extractStridedSlice S24x128 ![0, 128] (extf .f32 a bitsLt_bf16_f32) slices_S24x256_o0_128_S24x128
  have b1 := extractStridedSlice S24x128 ![0, 128] (extf .f32 b bitsLt_bf16_f32) slices_S24x256_o0_128_S24x128
  truncf .bf16 (concatenate S24x512 1 [⟨S24x128, ilv1 0#32 a0 b0⟩, ⟨S24x128, ilv1 64#32 a0 b0⟩, ⟨S24x128, ilv1 0#32 a1 b1⟩, ⟨S24x128, ilv1 64#32 a1 b1⟩]
    concatenates_S24x128_S24x128_S24x128_S24x128_S24x512_d1) bitsLt_bf16_f32

theorem slices_x (n : Fin 56) : S24x7168.Slices ![0, 128 * n.val] S24x128 := by revert n; decide

/-- Piece `g` of the input's rearrangement: 256 columns that interleave 128 columns of either half of the input. -/
def xip (x : Vec F S24x7168 .bf16) (g : Fin 28) : FVec F S24x256 .bf16 :=
  have a := extractStridedSlice S24x128 ![0, 128 * (⟨g.val, by omega⟩ : Fin 56).val] (extf .f32 (shapeCast S24x7168 x shapeCasts_S24x7168_S24x7168) bitsLt_bf16_f32) (slices_x _)
  have b := extractStridedSlice S24x128 ![0, 128 * (⟨g.val + 28, by omega⟩ : Fin 56).val] (extf .f32 (shapeCast S24x7168 x shapeCasts_S24x7168_S24x7168) bitsLt_bf16_f32) (slices_x _)
  shapeCast S24x256 (truncf .bf16 (concatenate S24x256 1 [⟨S24x128, ilv1 0#32 a b⟩, ⟨S24x128, ilv1 64#32 a b⟩]
    concatenates_S24x128_S24x128_S24x256_d1) bitsLt_bf16_f32) shapeCasts_S24x256_S24x256

/-- One group of 256 rows of the down weight: row `r` has the 4-bit integer `r % 2` of code row `r / 2`, times the scale row
    `a` (even `r`) or `b` (odd `r`). -/
def deqd (a b : Vec F S1x7168 .f32) (v : Vec F S128x7168 .i8) : FVec F S256x7168 .bf16 :=
  mulf (sitofp .bf16 (shrsi (shli
      (shapeCast S256x7168 (broadcastTo S128x2x7168 (shapeCast S128x1x7168 (shapeCast S128x1x7168 (extui 32 v natLt_8_32)
        shapeCasts_S128x7168_S128x1x7168) shapeCasts_S128x1x7168_S128x1x7168) broadcasts_S128x1x7168_S128x2x7168) shapeCasts_S128x2x7168_S256x7168)
      (subi (broadcast S256x7168 28#32) (muli (broadcast S256x7168 4#32)
        (andi (iota .tc S256x7168 32 [0] iota_S256x7168_d0_w32) (broadcast S256x7168 1#32)))))
      (broadcast S256x7168 28#32)))
    (concatenate S256x7168 0 (List.replicate 16 ⟨S16x7168, interleaveRows S16x7168
      (truncf .bf16 (broadcastTo S8x7168 (shapeCast S1x7168 (shapeCast S1x7168 a shapeCasts_S1x7168_S1x7168) shapeCasts_S1x7168_S1x7168) broadcasts_S1x7168_S8x7168) bitsLt_bf16_f32)
      (truncf .bf16 (broadcastTo S8x7168 (shapeCast S1x7168 (shapeCast S1x7168 b shapeCasts_S1x7168_S1x7168) shapeCasts_S1x7168_S1x7168) broadcasts_S1x7168_S8x7168) bitsLt_bf16_f32)
      bitcasts_S16x7168_w16_S8x7168_w32⟩) concatenates_S16x7168_S16x7168_S16x7168_S16x7168_S16x7168_S16x7168_S16x7168_S16x7168_S16x7168_S16x7168_S16x7168_S16x7168_S16x7168_S16x7168_S16x7168_S16x7168_S256x7168_d0)

/-- The down projection's running sum after one step. -/
def ystep (hh : FVec F S24x512 .bf16) (w0 w1 : FVec F S256x7168 .bf16) (y : Vec F S24x7168 .f32) : FVec F S24x7168 .f32 :=
  addf y (matmul dot_S24x512_S512x7168_S24x7168_1_0_0_1_n_n none hh
    (concatenate S512x7168 0 [⟨S256x7168, w0⟩, ⟨S256x7168, w1⟩] concatenates_S256x7168_S256x7168_S512x7168_d0) (constant S24x7168 .f32 0x00000000#32))

/-- The rows' adapter numbers as a column, built row by row. -/
def icol (iv : Fin 24 → Elt F .i32) : (n : ℕ) → n ≤ 24 → IVec S24x1 32
  | 0, _ => broadcast S24x1 0#32
  | n + 1, h => select (cmpi .eq (iota .tc S24x1 32 [0] iota_S24x1_d0_w32) (broadcast S24x1 (BitVec.ofNat 32 n))) (broadcast S24x1 (iv ⟨n, h⟩)) (icol iv n (by omega))

/-- The rows' adapter scales as a column, built adapter by adapter. -/
def scol (ic : IVec S24x1 32) (sv : Fin 11 → Elt F .f32) : (n : ℕ) → n ≤ 11 → FVec F S24x1 .f32
  | 0, _ => broadcast S24x1 (Scalar.ofBits .f32 0x00000000#32 : F .f32)
  | n + 1, h => select (cmpi .eq ic (broadcast S24x1 (BitVec.ofNat 32 n))) (broadcast S24x1 (sv ⟨n, h⟩)) (scol ic sv n (by omega))

/-- A low-rank product, scaled by the row's scale and kept only in the columns of the row's adapter. -/
def msk (ic : IVec S24x1 32) (sc : FVec F S24x1 .f32) (v : FVec F S24x352 .f32) : FVec F S24x352 .bf16 :=
  truncf .bf16 (select (cmpi .eq (shrsi (iota .tc S24x352 32 [1] iota_S24x352_d1_w32) (broadcast S24x352 5#32)) (broadcastTo S24x352 ic broadcasts_S24x1_S24x352))
    (mulf v (broadcastTo S24x352 sc broadcasts_S24x1_S24x352)) (broadcast S24x352 (Scalar.ofBits .f32 0x00000000#32 : F .f32))) bitsLt_bf16_f32

/-- The low-rank product of gate or up. -/
def dotA (x : Vec F S24x7168 .bf16) (a : Vec F S11x32x7168 .bf16) : FVec F S24x352 .f32 :=
  matmul dot_S24x7168_S352x7168_S24x352_1_1_0_0_n_n none (shapeCast S24x7168 x shapeCasts_S24x7168_S24x7168)
    (shapeCast S352x7168 (shapeCast S11x32x7168 a shapeCasts_S11x32x7168_S11x32x7168) shapeCasts_S11x32x7168_S352x7168) (constant S24x352 .f32 0x00000000#32)

/-- The sum over the adapters of a masked product. -/
def fold (v : FVec F S24x352 .bf16) : FVec F S24x32 .bf16 :=
  truncf .bf16 (matmul dot_S24x352_S352x32_S24x32_1_0_0_1_n_n none v
    (truncf .bf16 (sitofp .f32 (extui 32 (cmpi .eq (andi (iota .tc S352x32 32 [0] iota_S352x32_d0_w32) (broadcast S352x32 31#32))
      (iota .tc S352x32 32 [1] iota_S352x32_d1_w32)) natLt_1_32)) bitsLt_bf16_f32) (constant S24x32 .f32 0x00000000#32)) bitsLt_bf16_f32

/-- The output: the down projection plus its low-rank part. -/
def outv (v : FVec F S24x352 .bf16) (y : Vec F S24x7168 .f32) (b : Vec F S11x32x7168 .bf16) : FVec F S24x7168 .bf16 :=
  truncf .bf16 (addf y (matmul dot_S24x352_S352x7168_S24x7168_1_0_0_1_n_n none v (shapeCast S352x7168 b shapeCasts_S11x32x7168_S352x7168)
    (constant S24x7168 .f32 0x00000000#32))) bitsLt_bf16_f32

end Defs
end Cert.KernelIdeal.Body
-- ==== Proof.Values.lean ====
module

public import proofs.«01_k».proof.Proof.Blocks2

/-! What each part of a step computes, index by index, when the vectors it loads are the matching parts of the arguments. -/

@[expose] public section

set_option maxRecDepth 16384

noncomputable section

namespace Cert.KernelIdeal.Body

open Cert Cert.KernelIdeal Cert.KernelIdeal.Gen
open Idealize.ShloMosaic Idealize.ShloMosaic.Pointwise
open scoped BigOperators

/-! ### Sums -/

/-- A sum over `m * n` places as a double sum. -/
theorem sum_split (m n N : ℕ) (h : N = m * n) (f : Fin N → EReal) (G : Fin m → Fin n → EReal)
    (hf : ∀ (a : Fin m) (b : Fin n) (hl : n * a.val + b.val < N), f ⟨n * a.val + b.val, hl⟩ = G a b) : ∑ k, f k = ∑ a, ∑ b, G a b := by
  subst h
  rw [← Fintype.sum_prod_type' (f := fun a b => G a b), ← finProdFinEquiv.sum_comp]
  refine Finset.sum_congr rfl fun p _ => ?_
  have hl : n * p.1.val + p.2.val < m * n := by
    have := (finProdFinEquiv p).isLt; simpa [finProdFinEquiv, Nat.add_comm] using this
  rw [← hf p.1 p.2 hl]
  congr 1
  apply Fin.ext
  simp [finProdFinEquiv, Nat.add_comm]

/-- A sum over `2 * n` places as the sum over the even ones plus the sum over the odd ones. -/
theorem sum_pair (n N : ℕ) (h : N = n * 2) (f : Fin N → EReal) (G : Fin 2 → Fin n → EReal)
    (hf : ∀ (a : Fin n) (b : Fin 2) (hl : 2 * a.val + b.val < N), f ⟨2 * a.val + b.val, hl⟩ = G b a) : ∑ k, f k = (∑ a, G 0 a) + ∑ a, G 1 a := by
  rw [sum_split n 2 N h f (fun a b => G b a) hf]
  simp only [Fin.sum_univ_two, Finset.sum_add_distrib]

/-! ### Gate and up -/

variable (A : Spec.Args)

theorem gate_at (t : Fin 2) (f' : Fin 256 → Fin 20480)
    (xi : Vec Ideal S32x7168 .bf16) (m : Vec Ideal S24x352 .bf16) (v : Vec Ideal S56x256 .bf16) (cs : Fin 28 → Vec Ideal S128x256 .i8)
    (bl : Vec Ideal S11x1x32x256 .bf16)
    (hx : ∀ (b : Fin 24) (k : Fin 7168), xi (ix2 (⟨b.val, by omega⟩ : Fin 32) k) = A.x b ⟨k.val % 2 * 3584 + k.val / 2, by omega⟩)
    (hm : ∀ (b : Fin 24) (c : Fin 352), m (ix2 b c) = A.mg b ⟨c.val / 32, by omega⟩ ⟨32 * t.val + c.val % 32, by omega⟩)
    (hv : ∀ (g : Fin 56) (f : Fin 256), v (ix2 g f) = A.gs g ⟨20480 * t.val + (f' f).val, by omega⟩)
    (hc : ∀ (g : Fin 28) (r : Fin 128) (f : Fin 256), cs g (ix2 r f) = A.gc ⟨128 * g.val + r.val, by omega⟩ ⟨20480 * t.val + (f' f).val, by omega⟩)
    (hb : ∀ (n : Fin 11) (r : Fin 32) (f : Fin 256), bl (ix4 n (0 : Fin 1) r f) = A.bg n t r (f' f))
    (b : Fin 24) (f : Fin 256) : gate xi m v cs bl (ix2 b f) = A.gu b t (f' f) := by
  unfold gate
  pointwise
  have hlin : ∑ x, xi (ix2 (⟨b.val, by omega⟩ : Fin 32) x) * wblk v cs (ix2 x f) = A.lin b ⟨20480 * t.val + (f' f).val, by omega⟩ := by
    refine sum_pair 3584 7168 rfl _ (fun p i => A.x b ⟨p.val * 3584 + i.val, by omega⟩ * A.wg p i ⟨20480 * t.val + (f' f).val, by omega⟩) ?_ |>.trans ?_
    · intro i p hl
      rw [hx, wblk_at, hc, hv, Spec.Args.wg]
      have e1 : (2 * i.val + p.val) % 2 = p.val := by omega
      have e2 : (2 * i.val + p.val) / 2 = i.val := by omega
      have e3 : 128 * ((2 * i.val + p.val) / 256) + (2 * i.val + p.val) % 256 / 2 = i.val := by omega
      have e4 : (2 * i.val + p.val) / 256 + 28 * p.val = 28 * p.val + i.val / 128 := by omega
      simp only [e1, e2, e3, e4]
    · unfold Spec.Args.lin
      simp
  have hdel : ∑ x : Fin 352, m (ix2 b x) * bl (ix4 (⟨x.val / 32, by omega⟩ : Fin 11) (0 : Fin 1) (⟨x.val % 32, by omega⟩ : Fin 32) f) = A.delta b t (f' f) := by
    refine sum_split 11 32 352 rfl _ _ fun n r hl => ?_
    rw [hm, hb]
    have e1 : (32 * n.val + r.val) / 32 = n.val := by omega
    have e2 : (32 * n.val + r.val) % 32 = r.val := by omega
    simp only [e1, e2]
  rw [hlin, hdel]
  rfl

theorem act_at (g u : FVec Ideal S24x256 .f32) (b : Fin 24) (f : Fin 256) :
    act g u (ix2 b f) = g (ix2 b f) * Spec.sig (g (ix2 b f)) * u (ix2 b f) := by
  unfold act
  pointwise
  rfl

/-- The lane the kernel's arithmetic picks: half the lane number, plus the piece's offset. -/
theorem src_lane (p : BitVec 32) (hp : p = 0#32 ∨ p = 64#32) (l : Fin 128) :
    (Scalar.select (IntOp.cmpi CmpIPredicate.slt (IntOp.addi (IntOp.shrsi ArithUnit.vector (BitVec.ofNat 32 l.val) 1#32) p) 0#32)
      (IntOp.addi (IntOp.addi (IntOp.shrsi ArithUnit.vector (BitVec.ofNat 32 l.val) 1#32) p) 128#32)
      (IntOp.addi (IntOp.shrsi ArithUnit.vector (BitVec.ofNat 32 l.val) 1#32) p)).toNat % 128 = l.val / 2 + p.toNat := by
  rcases hp with rfl | rfl <;> revert l <;> decide

/-- The kernel's test of a lane number's parity. -/
theorem even_lane {α : Type} (l : Fin 128) (x y : α) :
    Scalar.select (IntOp.cmpi CmpIPredicate.eq (IntOp.andi (BitVec.ofNat 32 l.val) 1#32) 0#32) x y = if l.val % 2 = 0 then x else y := by
  have : IntOp.cmpi CmpIPredicate.eq (IntOp.andi (BitVec.ofNat 32 l.val) 1#32) 0#32 = if l.val % 2 = 0 then 1#1 else 0#1 := by
    revert l; decide
  rw [this]
  split <;> rfl

theorem ilv1_at (p : BitVec 32) (hp : p = 0#32 ∨ p = 64#32) (a b : FVec Ideal S24x128 .f32) (r : Fin 24) (l : Fin 128)
    (k : Fin 128) (hk : k.val = l.val / 2 + p.toNat) :
    ilv1 p a b (ix2 r l) = if l.val % 2 = 0 then a (ix2 r k) else b (ix2 r k) := by
  unfold ilv1 src lane
  pointwise
  simp only [src_lane p hp l, even_lane, ← hk]

theorem ilv_at (a b : FVec Ideal S24x256 .bf16) (r : Fin 24) (k : Fin 512) :
    ilv a b (ix2 r k) = if k.val % 2 = 0 then a (ix2 r (⟨k.val / 2, by omega⟩ : Fin 256)) else b (ix2 r (⟨k.val / 2, by omega⟩ : Fin 256)) := by
  unfold ilv
  pointwise
  have hpos : ∀ (p : BitVec 32) (hp : p = 0#32 ∨ p = 64#32) (o : ℕ) (ho : S24x256.Slices ![0, o] S24x128) (l : Fin 128) (hl : l.val % 2 = k.val % 2)
      (hk : k.val / 2 = o + (l.val / 2 + p.toNat)),
      ilv1 p (extractStridedSlice S24x128 ![0, o] (extf FTy.f32 a bitsLt_bf16_f32) ho) (extractStridedSlice S24x128 ![0, o] (extf FTy.f32 b bitsLt_bf16_f32) ho) (ix2 r l)
        = if k.val % 2 = 0 then a (ix2 r (⟨k.val / 2, by omega⟩ : Fin 256)) else b (ix2 r (⟨k.val / 2, by omega⟩ : Fin 256)) := by
    intro p hp o ho l hl hk
    rw [ilv1_at p hp _ _ r l ⟨l.val / 2 + p.toNat, by rcases hp with rfl | rfl <;> simp <;> omega⟩ rfl, hl]
    pointwise
    simp only [hk]
  split
  · exact hpos 0#32 (.inl rfl) 0 _ _ rfl (by simp)
  · split
    · exact hpos 64#32 (.inr rfl) 0 _ _ (by simp; omega) (by simp; omega)
    · split
      · exact hpos 0#32 (.inl rfl) 128 _ _ (by simp; omega) (by simp; omega)
      · exact hpos 64#32 (.inr rfl) 128 _ _ (by simp; omega) (by simp; omega)

theorem xip_at (x : Vec Ideal S24x7168 .bf16) (g : Fin 28) (r : Fin 24) (k : Fin 256) :
    xip x g (ix2 r k) = x (ix2 r (⟨k.val % 2 * 3584 + 128 * g.val + k.val / 2, by omega⟩ : Fin 7168)) := by
  unfold xip
  pointwise
  have hpos : ∀ (p : BitVec 32) (hp : p = 0#32 ∨ p = 64#32) (h0 : _) (h1 : _) (l : Fin 128) (hl : l.val % 2 = k.val % 2) (hk : k.val / 2 = l.val / 2 + p.toNat),
      (ilv1 (F := Ideal) p (extractStridedSlice S24x128 ![0, 128 * g.val] (extf (F := Ideal) .f32 (s := S24x7168) (φ := .bf16) x bitsLt_bf16_f32) h0)
          (extractStridedSlice S24x128 ![0, 128 * (g.val + 28)] (extf (F := Ideal) .f32 (s := S24x7168) (φ := .bf16) x bitsLt_bf16_f32) h1) (ix2 r l) : EReal)
        = x (ix2 r (⟨k.val % 2 * 3584 + 128 * g.val + k.val / 2, by omega⟩ : Fin 7168)) := by
    intro p hp h0 h1 l hl hk
    rw [ilv1_at p hp _ _ r l ⟨l.val / 2 + p.toNat, by rcases hp with rfl | rfl <;> simp <;> omega⟩ rfl, hl]
    pointwise
    rcases Nat.mod_two_eq_zero_or_one k.val with h | h
    · simp only [h, if_true]
      congr 2
      apply Fin.ext
      show _ = _
      simp
      omega
    · simp only [h]
      simp only [Nat.one_ne_zero, if_false]
      congr 2
      apply Fin.ext
      show _ = _
      simp
      omega
  split
  · exact hpos 0#32 (.inl rfl) _ _ _ rfl (by simp)
  · exact hpos 64#32 (.inr rfl) _ _ _ (by simp; omega) (by simp; omega)

theorem deqd_at (a b : Vec Ideal S1x7168 .f32) (v : Vec Ideal S128x7168 .i8) (r : Fin 256) (f : Fin 7168) :
    deqd a b v (ix2 r f) = Spec.q (Spec.nib ⟨r.val % 2, Nat.mod_lt _ (by decide)⟩ (v (ix2 (⟨r.val / 2, by omega⟩ : Fin 128) f)))
      * (if r.val % 2 = 0 then a (ix2 (0 : Fin 1) f) else b (ix2 (0 : Fin 1) f)) := by
  unfold deqd
  rw [show ∀ (x y : FVec Ideal S256x7168 .bf16), mulf x y (ix2 r f) = x (ix2 r f) * y (ix2 r f) from fun _ _ => rfl]
  congr 1
  · pointwise
    rcases Nat.mod_two_eq_zero_or_one r.val with h | h
    · rw [show IntOp.subi (28#32) (IntOp.muli (4#32) (IntOp.andi (BitVec.ofNat 32 r.val) 1#32)) = 28#32 from by
        rw [show IntOp.andi (BitVec.ofNat 32 r.val) 1#32 = 0#32 from by
          apply BitVec.eq_of_toNat_eq; simp [IntOp.andi, Nat.and_one_is_mod]; omega]
        rfl]
      have := nib_even (v (ix2 (⟨r.val / 2, by omega⟩ : Fin 128) f))
      simp only [h]
      exact congrArg (fun z : ℤ => ((z : ℝ) : EReal)) this
    · rw [show IntOp.subi (28#32) (IntOp.muli (4#32) (IntOp.andi (BitVec.ofNat 32 r.val) 1#32)) = 24#32 from by
        rw [show IntOp.andi (BitVec.ofNat 32 r.val) 1#32 = 1#32 from by
          apply BitVec.eq_of_toNat_eq; simp [IntOp.andi, Nat.and_one_is_mod]; omega]
        rfl]
      have := nib_odd (v (ix2 (⟨r.val / 2, by omega⟩ : Fin 128) f))
      simp only [h]
      exact congrArg (fun z : ℤ => ((z : ℝ) : EReal)) this
  · rw [concatenate_replicate_apply (t := S256x7168) (s₁ := S16x7168) 0 16 _ _ rfl (ix2 r f) (ix2 (⟨r.val % 16, by omega⟩ : Fin 16) f) (by simp [ix2])
      (fun b hb => by fin_cases b <;> simp_all [ix2])]
    pointwise
    have : r.val % 16 % 2 = r.val % 2 := by omega
    simp [this]

theorem ystep_at (j : Fin 40) (hh : FVec Ideal S24x512 .bf16) (a0 b0 a1 b1 : Vec Ideal S1x7168 .f32) (c0 c1 : Vec Ideal S128x7168 .i8) (y : Vec Ideal S24x7168 .f32)
    (hhh : ∀ (b : Fin 24) (k : Fin 512), hh (ix2 b k) = A.h b ⟨k.val % 2 * 10240 + 256 * j.val + k.val / 2, by omega⟩)
    (ha0 : ∀ d : Fin 7168, a0 (ix2 (0 : Fin 1) d) = A.ds ⟨2 * j.val, by omega⟩ d)
    (hb0 : ∀ d : Fin 7168, b0 (ix2 (0 : Fin 1) d) = A.ds ⟨80 + 2 * j.val, by omega⟩ d)
    (ha1 : ∀ d : Fin 7168, a1 (ix2 (0 : Fin 1) d) = A.ds ⟨2 * j.val + 1, by omega⟩ d)
    (hb1 : ∀ d : Fin 7168, b1 (ix2 (0 : Fin 1) d) = A.ds ⟨80 + 2 * j.val + 1, by omega⟩ d)
    (hc0 : ∀ (r : Fin 128) (d : Fin 7168), c0 (ix2 r d) = A.dc ⟨256 * j.val + r.val, by omega⟩ d)
    (hc1 : ∀ (r : Fin 128) (d : Fin 7168), c1 (ix2 r d) = A.dc ⟨256 * j.val + 128 + r.val, by omega⟩ d)
    (b : Fin 24) (d : Fin 7168) :
    ystep hh (deqd a0 b0 c0) (deqd a1 b1 c1) y (ix2 b d) = y (ix2 b d)
      + ((∑ i : Fin 256, A.h b ⟨256 * j.val + i.val, by omega⟩ * A.wd 0 ⟨256 * j.val + i.val, by omega⟩ d)
        + ∑ i : Fin 256, A.h b ⟨10240 + 256 * j.val + i.val, by omega⟩ * A.wd 1 ⟨256 * j.val + i.val, by omega⟩ d) := by
  unfold ystep
  pointwise
  congr 1
  have h0 := sum_pair 128 256 rfl (fun x : Fin 256 => hh (ix2 b (⟨x.val, by omega⟩ : Fin 512)) * deqd a0 b0 c0 (ix2 x d))
    (fun p i => A.h b ⟨p.val * 10240 + 256 * j.val + i.val, by omega⟩ * A.wd p ⟨256 * j.val + i.val, by omega⟩ d) (by
      intro i p hl
      show hh (ix2 b _) * deqd a0 b0 c0 (ix2 _ d) = _
      rw [hhh, deqd_at, hc0, ha0, hb0, Spec.Args.wd]
      have e1 : (2 * i.val + p.val) % 2 = p.val := by omega
      have e2 : (2 * i.val + p.val) / 2 = i.val := by omega
      have e3 : (256 * j.val + i.val) / 128 = 2 * j.val := by omega
      simp only [e1, e2, e3]
      rcases Fin.exists_fin_two.mp ⟨p, rfl⟩ with h | h <;> subst h <;> simp)
  have h1 := sum_pair 128 256 rfl (fun x : Fin 256 => hh (ix2 b (⟨256 + x.val, by omega⟩ : Fin 512)) * deqd a1 b1 c1 (ix2 x d))
    (fun p i => A.h b ⟨p.val * 10240 + 256 * j.val + 128 + i.val, by omega⟩ * A.wd p ⟨256 * j.val + 128 + i.val, by omega⟩ d) (by
      intro i p hl
      show hh (ix2 b _) * deqd a1 b1 c1 (ix2 _ d) = _
      rw [hhh, deqd_at, hc1, ha1, hb1, Spec.Args.wd]
      have e1 : (2 * i.val + p.val) % 2 = p.val := by omega
      have e2 : (2 * i.val + p.val) / 2 = i.val := by omega
      have e3 : (256 * j.val + 128 + i.val) / 128 = 2 * j.val + 1 := by omega
      have e4 : (256 + (2 * i.val + p.val)) % 2 = p.val := by omega
      have e5 : p.val * 10240 + 256 * j.val + (256 + (2 * i.val + p.val)) / 2 = p.val * 10240 + 256 * j.val + 128 + i.val := by omega
      simp only [e1, e2, e3, e4, e5]
      rcases Fin.exists_fin_two.mp ⟨p, rfl⟩ with h | h <;> subst h <;> simp <;> rfl)
  have hs : ∀ (p : Fin 2), ∑ i : Fin 256, A.h b ⟨p.val * 10240 + 256 * j.val + i.val, by omega⟩ * A.wd p ⟨256 * j.val + i.val, by omega⟩ d
      = (∑ i : Fin 128, A.h b ⟨p.val * 10240 + 256 * j.val + i.val, by omega⟩ * A.wd p ⟨256 * j.val + i.val, by omega⟩ d)
        + ∑ i : Fin 128, A.h b ⟨p.val * 10240 + 256 * j.val + 128 + i.val, by omega⟩ * A.wd p ⟨256 * j.val + 128 + i.val, by omega⟩ d := by
    intro p
    rw [sum_split 2 128 256 rfl _ (fun a i => A.h b ⟨p.val * 10240 + 256 * j.val + 128 * a.val + i.val, by omega⟩ * A.wd p ⟨256 * j.val + 128 * a.val + i.val, by omega⟩ d)
      (by intro a i hl; simp only [Nat.add_assoc]), Fin.sum_univ_two]
    simp
  rw [h0, h1]
  have hs0 := hs 0
  have hs1 := hs 1
  simp only [Fin.val_zero, Fin.val_one, Nat.zero_mul, Nat.zero_add, Nat.one_mul] at hs0 hs1 ⊢
  rw [hs0, hs1]
  abel

theorem tstep_at (hlo hhi : FVec Ideal S24x256 .bf16) (tacc : Vec Ideal S24x352 .f32) (alo ahi : Vec Ideal S11x32x256 .bf16) (b : Fin 24) (c : Fin 352) :
    tstep hlo hhi tacc alo ahi (ix2 b c) = tacc (ix2 b c)
      + ((∑ f : Fin 256, hlo (ix2 b f) * alo (ix3 (⟨c.val / 32, by omega⟩ : Fin 11) (⟨c.val % 32, by omega⟩ : Fin 32) f))
        + ∑ f : Fin 256, hhi (ix2 b f) * ahi (ix3 (⟨c.val / 32, by omega⟩ : Fin 11) (⟨c.val % 32, by omega⟩ : Fin 32) f)) := by
  unfold tstep
  pointwise

/-- A choice on an equality test. -/
theorem sel_eq {α : Type} (x y : BitVec 32) (u v : α) : Scalar.select (IntOp.cmpi CmpIPredicate.eq x y) u v = if x = y then u else v := by
  by_cases h : x = y
  · subst h; simp [Scalar.select, IntOp.cmpi]
  · have h' : (x == y) = false := beq_eq_false_iff_ne.mpr h
    simp [Scalar.select, IntOp.cmpi, h, h']

theorem icol_at (iv : Fin 24 → BitVec 32) (n : ℕ) (h : n ≤ 24) (b : Fin 24) :
    icol (F := Ideal) iv n h (ix2 b (0 : Fin 1)) = if b.val < n then iv b else 0#32 := by
  induction n with
  | zero => rfl
  | succ n ih =>
    unfold icol
    pointwise
    rw [sel_eq, ih]
    have hb : (BitVec.ofNat 32 b.val = BitVec.ofNat 32 n) ↔ b.val = n := by
      constructor
      · intro h'
        have := congrArg BitVec.toNat h'
        simp only [BitVec.toNat_ofNat] at this
        omega
      · intro h'; rw [h']
    rcases Nat.lt_trichotomy b.val n with h' | h' | h'
    · rw [if_neg (by rw [hb]; omega), if_pos h', if_pos (by omega)]
    · rw [if_pos (hb.mpr h'), if_pos (by omega)]
      exact congrArg iv (Fin.ext h'.symm)
    · rw [if_neg (by rw [hb]; omega), if_neg (by omega), if_neg (by omega)]

theorem scol_at (ic : IVec S24x1 32) (sv : Fin 11 → EReal) (n : ℕ) (h : n ≤ 11) (b : Fin 24) :
    (∀ k : Fin 11, k.val < n → ic (ix2 b (0 : Fin 1)) = BitVec.ofNat 32 k.val → scol (F := Ideal) ic sv n h (ix2 b (0 : Fin 1)) = sv k) := by
  induction n with
  | zero => intro k hk; omega
  | succ n ih =>
    intro k hk he
    unfold scol
    pointwise
    rw [sel_eq, he]
    have hb : (BitVec.ofNat 32 k.val = BitVec.ofNat 32 n) ↔ k.val = n := by
      constructor
      · intro h'
        have := congrArg BitVec.toNat h'
        simp only [BitVec.toNat_ofNat] at this
        omega
      · intro h'; rw [h']
    by_cases h' : k.val = n
    · rw [if_pos (hb.mpr h')]
      exact congrArg sv (Fin.ext h'.symm)
    · rw [if_neg (fun hh => h' (hb.mp hh))]
      exact ih (by omega) k (by omega) he

theorem msk_at (ic : IVec S24x1 32) (sc : FVec Ideal S24x1 .f32) (v : FVec Ideal S24x352 .f32) (b : Fin 24) (c : Fin 352) :
    msk ic sc v (ix2 b c) = if ic (ix2 b (0 : Fin 1)) = BitVec.ofNat 32 (c.val / 32) then v (ix2 b c) * sc (ix2 b (0 : Fin 1)) else 0 := by
  unfold msk
  pointwise
  rw [sel_eq, show IntOp.shrsi ArithUnit.vector (BitVec.ofNat 32 c.val) 5#32 = BitVec.ofNat 32 (c.val / 32) from by revert c; decide]
  simp only [eq_comm]

theorem dotA_at (x : Vec Ideal S24x7168 .bf16) (a : Vec Ideal S11x32x7168 .bf16) (b : Fin 24) (c : Fin 352) :
    dotA x a (ix2 b c) = ∑ d : Fin 7168, x (ix2 b d) * a (ix3 (⟨c.val / 32, by omega⟩ : Fin 11) (⟨c.val % 32, by omega⟩ : Fin 32) d) := by
  unfold dotA
  pointwise

theorem fold_at (v : FVec Ideal S24x352 .bf16) (b : Fin 24) (r : Fin 32) :
    fold v (ix2 b r) = ∑ n : Fin 11, v (ix2 b (⟨32 * n.val + r.val, by omega⟩ : Fin 352)) := by
  unfold fold
  pointwise
  rw [sum_split 11 32 352 rfl _ (fun n q => v (ix2 b (⟨32 * n.val + q.val, by omega⟩ : Fin 352)) * if q = r then 1 else 0)]
  · simp
  · intro n q hl
    congr 1
    have e : IntOp.andi (BitVec.ofNat 32 (32 * n.val + q.val)) 31#32 = BitVec.ofNat 32 q.val := by
      revert n q; decide
    show FloatOps.sitofp FTy.f32 (BitVec.setWidth 32 (IntOp.cmpi CmpIPredicate.eq (IntOp.andi (BitVec.ofNat 32 (32 * n.val + q.val)) 31#32) (BitVec.ofNat 32 r.val))) = _
    rw [e]
    have hb : (BitVec.ofNat 32 q.val = BitVec.ofNat 32 r.val) ↔ q = r := by
      constructor
      · intro h'
        have := congrArg BitVec.toNat h'
        simp only [BitVec.toNat_ofNat] at this
        exact Fin.ext (by omega)
      · intro h'; rw [h']
    by_cases h' : q = r
    · subst h'; simp [IntOp.cmpi, FloatOps.sitofp]
    · have h'' : (BitVec.ofNat 32 q.val == BitVec.ofNat 32 r.val) = false := beq_eq_false_iff_ne.mpr (mt hb.mp h')
      simp [IntOp.cmpi, FloatOps.sitofp, h', h'']

theorem outv_at (v : FVec Ideal S24x352 .bf16) (y : Vec Ideal S24x7168 .f32) (bd : Vec Ideal S11x32x7168 .bf16) (b : Fin 24) (d : Fin 7168) :
    outv v y bd (ix2 b d) = y (ix2 b d) + ∑ n : Fin 11, ∑ r : Fin 32, v (ix2 b (⟨32 * n.val + r.val, by omega⟩ : Fin 352)) * bd (ix3 n r d) := by
  unfold outv
  pointwise
  congr 1
  refine sum_split 11 32 352 rfl _ _ fun n r hl => ?_
  have e1 : (32 * n.val + r.val) / 32 = n.val := by omega
  have e2 : (32 * n.val + r.val) % 32 = r.val := by omega
  simp only [e1, e2]

end Cert.KernelIdeal.Body
-- ==== Proof.StepCore.lean ====
module

public import proofs.«01_k».proof.Proof.Values
public import Idealize.ShloMosaic.Lib.VecWindow
public import Idealize.ShloMosaic.Lib.WritesUnit

/-! One step of the kernel, stated once for all three kinds of grid point: which part of the arguments each window's block
    holds, what the loads of a step read, and what the step's stores leave. -/

@[expose] public section

set_option maxRecDepth 16384

noncomputable section

namespace Cert.KernelIdeal.Body

open Cert Cert.KernelIdeal Cert.KernelIdeal.Gen
open Idealize.ShloMosaic Idealize.ShloMosaic.Pointwise
open scoped BigOperators

/-! ### Loads -/

section Loads
variable {sp : Space} {s : Shape} {e : EltTy} {Val : EltTy → Type}

/-- A load of a rectangle of a buffer that holds `X` reads `X` at the shifted index. -/
theorem rd_at (m : Memref sig .tc sp s e) (h : m.IsWhole) (X : s.Idx → Val e) {o z : Fin s.rank → ℕ} (i : ∀ a, o a + z a ≤ s.size a)
    (y : (Rect.unit o z i).shape.Idx) (w : s.Idx) (hw : ∀ a, (w a).val = o a + (y a).val) :
    View.readAt Val m.view (Rect.unit o z i).toLoadRect (h.unread X) y = X w := by
  rw [h.readAt_unread]
  congr 1
  funext a
  apply Fin.ext
  rw [hw a]
  show o a + 1 * (y a).val = _
  rw [Nat.one_mul]

/-- What a list of stores leaves at a covered index, if every store's payload is the matching part of one function. -/
theorem read_of_pieces (v : View sig .tc sp s e) (f : v.ty.Contents Val) (G : s.Idx → Val e) :
    ∀ (L : List (View.Piece Val s e)) (_ : ∀ p ∈ L, ∀ x : p.1.shape.Idx, p.2 x = G (p.1.emb x)) (y : s.Idx) (_ : ∃ p ∈ L, y ∈ p.1.set),
      v.read Val (v.writes Val f L) y = G y
  | [], _, _, hy => by obtain ⟨p, hp, _⟩ := hy; simp at hp
  | p :: L, hL, y, hy => by
    by_cases hm : y ∈ p.1.set
    · obtain ⟨x, rfl⟩ := p.1.exists_idx_of_mem hm
      obtain ⟨r, w⟩ := p
      exact (View.read_writes_cons_emb v f r w L x).trans (hL ⟨r, w⟩ (by simp) x)
    · have ih := read_of_pieces v f G L (fun p' h' => hL p' (by simp [h'])) y (by
        obtain ⟨p', hp', hy'⟩ := hy
        rcases List.mem_cons.mp hp' with rfl | hp'
        · exact absurd hy' hm
        · exact ⟨p', hp', hy'⟩)
      rw [← ih, View.writes_cons]
      exact View.read_slice_write_of_not_mem _ _ _ _ (by rw [Rect.map_emb_univ]; exact hm)

end Loads

theorem inb_codes (g : Fin 28) : ∀ a, (![128 * g.val, 0] : Fin 2 → ℕ) a + S128x256.size a ≤ S3584x256.size a := by
  revert g; decide

section Codes
variable {F : FTy → Type} [FloatOps F]
/-- The 28 groups of code rows that are loaded of a window. -/
def codes (a : Memref sig .tc .vmem S3584x256 .i8) (h : a.IsWhole) (x : Vec F S3584x256 .i8) : Fin 28 → Vec F S128x256 .i8 := fun g =>
  View.readAt (Elt F) a.view (Rect.unit (s := S3584x256) ![128 * g.val, 0] S128x256.size (inb_codes g)).toLoadRect (h.unread x)
/-- The adapter numbers, loaded one by one. -/
theorem inb_24 (g : Fin 24) : ∀ a, (![g.val] : Fin 1 → ℕ) a + S1.size a ≤ S24.size a := by revert g; decide
theorem inb_11 (g : Fin 11) : ∀ a, (![g.val] : Fin 1 → ℕ) a + S1.size a ≤ S11.size a := by revert g; decide
def idxs (a : Memref sig .tc .smem S24 .i32) (h : a.IsWhole) (x : Vec F S24 .i32) (h1 : 0 < (Rect.unit (s := S24) ![0] S1.size (inb_24 0)).shape.numel) : Fin 24 → Elt F .i32 := fun g =>
  View.readAt (Elt F) a.view (Rect.unit (s := S24) ![g.val] S1.size (inb_24 g)).toLoadRect (h.unread x) (Shape.Idx.first h1)
end Codes

/-! ### The blocks -/

/-- Column `f` of step `j`, in the lower and in the upper half of the hidden columns. -/
def clo (j : Fin 40) (f : Fin 256) : Fin 20480 := ⟨256 * j.val + f.val, by omega⟩
def chi (j : Fin 40) (f : Fin 256) : Fin 20480 := ⟨10240 + 256 * j.val + f.val, by omega⟩

/-- Gate's column `f` (`t = 0`) or up's (`t = 1`) among the columns of the fused gate/up weight. -/
def gcol (t : Fin 2) (f : Fin 20480) : Fin 40960 := ⟨20480 * t.val + f.val, by omega⟩

/-- Each window's block at step `j` holds its part of the arguments. -/
structure Blk (A : Spec.Args) (j : Fin 40) (x0 : Vec Ideal S24 .i32) (x1 : Vec Ideal S11 .f32) (x2 : Vec Ideal S24x7168 .bf16)
    (x3 : Vec Ideal S11x64x7168 .bf16) (x4 : Vec Ideal S11x32x7168 .bf16) (x5 x6 : Vec Ideal S11x32x256 .bf16)
    (x7 x8 x9 x10 : Vec Ideal S3584x256 .i8) (x11 x12 x13 x14 : Vec Ideal S56x256 .bf16) (x15 x16 : Vec Ideal S11x2x32x256 .bf16)
    (x17 : Vec Ideal S256x7168 .i8) (x18 : Vec Ideal S160x7168 .f32) : Prop where
  idx : ∀ b : Fin 24, x0 (ix1 b) = A.idx b
  sc : ∀ n : Fin 11, x1 (ix1 n) = A.sc n
  x : ∀ (b : Fin 24) (d : Fin 7168), x2 (ix2 b d) = A.x b d
  ag : ∀ (n : Fin 11) (c : Fin 64) (d : Fin 7168), x3 (ix3 n c d) = A.ag n d c
  bd : ∀ (n : Fin 11) (r : Fin 32) (d : Fin 7168), x4 (ix3 n r d) = A.bd n r d
  adl : ∀ (n : Fin 11) (r : Fin 32) (f : Fin 256), x5 (ix3 n r f) = A.ad n (clo j f) r
  adh : ∀ (n : Fin 11) (r : Fin 32) (f : Fin 256), x6 (ix3 n r f) = A.ad n (chi j f) r
  cgl : ∀ (i : Fin 3584) (f : Fin 256), x7 (ix2 i f) = A.gc i (gcol 0 (clo j f))
  cgh : ∀ (i : Fin 3584) (f : Fin 256), x8 (ix2 i f) = A.gc i (gcol 0 (chi j f))
  cul : ∀ (i : Fin 3584) (f : Fin 256), x9 (ix2 i f) = A.gc i (gcol 1 (clo j f))
  cuh : ∀ (i : Fin 3584) (f : Fin 256), x10 (ix2 i f) = A.gc i (gcol 1 (chi j f))
  sgl : ∀ (i : Fin 56) (f : Fin 256), x11 (ix2 i f) = A.gs i (gcol 0 (clo j f))
  sgh : ∀ (i : Fin 56) (f : Fin 256), x12 (ix2 i f) = A.gs i (gcol 0 (chi j f))
  sul : ∀ (i : Fin 56) (f : Fin 256), x13 (ix2 i f) = A.gs i (gcol 1 (clo j f))
  suh : ∀ (i : Fin 56) (f : Fin 256), x14 (ix2 i f) = A.gs i (gcol 1 (chi j f))
  bll : ∀ (n : Fin 11) (t : Fin 2) (r : Fin 32) (f : Fin 256), x15 (ix4 n t r f) = A.bg n t r (clo j f)
  blh : ∀ (n : Fin 11) (t : Fin 2) (r : Fin 32) (f : Fin 256), x16 (ix4 n t r f) = A.bg n t r (chi j f)
  dc : ∀ (r : Fin 256) (d : Fin 7168), x17 (ix2 r d) = A.dc ⟨256 * j.val + r.val, by omega⟩ d
  ds : ∀ (g : Fin 160) (d : Fin 7168), x18 (ix2 g d) = A.ds g d

variable (A : Spec.Args)

/-- The scratch and the results, as far as the steps before `n` have filled them. -/
def IsXI (X : Vec Ideal S32x7168 .bf16) : Prop :=
  ∀ (b : Fin 24) (k : Fin 7168), X (ix2 (⟨b.val, by omega⟩ : Fin 32) k) = A.x b ⟨k.val % 2 * 3584 + k.val / 2, by omega⟩
def IsM (t : Fin 2) (X : Vec Ideal S24x352 .bf16) : Prop :=
  ∀ (b : Fin 24) (c : Fin 352), X (ix2 b c) = A.mg b ⟨c.val / 32, by omega⟩ ⟨32 * t.val + c.val % 32, by omega⟩
def yterm (b : Fin 24) (d : Fin 7168) (j : Fin 40) : EReal :=
  (∑ i : Fin 256, A.h b ⟨256 * j.val + i.val, by omega⟩ * A.wd 0 ⟨256 * j.val + i.val, by omega⟩ d)
    + ∑ i : Fin 256, A.h b ⟨10240 + 256 * j.val + i.val, by omega⟩ * A.wd 1 ⟨256 * j.val + i.val, by omega⟩ d
def tterm (b : Fin 24) (c : Fin 352) (j : Fin 40) : EReal :=
  (∑ f : Fin 256, A.h b (clo j f) * A.ad ⟨c.val / 32, by omega⟩ (clo j f) ⟨c.val % 32, by omega⟩)
    + ∑ f : Fin 256, A.h b (chi j f) * A.ad ⟨c.val / 32, by omega⟩ (chi j f) ⟨c.val % 32, by omega⟩
def IsY (n : ℕ) (X : Vec Ideal S24x7168 .f32) : Prop :=
  ∀ (b : Fin 24) (d : Fin 7168), X (ix2 b d) = ∑ j ∈ Finset.univ.filter (fun j : Fin 40 => j.val < n), yterm A b d j
def IsT (n : ℕ) (X : Vec Ideal S24x352 .f32) : Prop :=
  ∀ (b : Fin 24) (c : Fin 352), X (ix2 b c) = ∑ j ∈ Finset.univ.filter (fun j : Fin 40 => j.val < n), tterm A b c j
def IsH (n : ℕ) (X : Vec Ideal S24x20480 .bf16) : Prop :=
  ∀ (b : Fin 24) (f : Fin 20480), f.val % 10240 / 256 < n → X (ix2 b f) = A.h b f
def IsS (X : Vec Ideal S24x64 .bf16) : Prop := ∀ (b : Fin 24) (c : Fin 64), X (ix2 b c) = A.s b c
def IsTt (X : Vec Ideal S24x32 .bf16) : Prop := ∀ (b : Fin 24) (r : Fin 32), X (ix2 b r) = A.t b r
def IsOut (X : Vec Ideal S24x7168 .bf16) : Prop := ∀ (b : Fin 24) (d : Fin 7168), X (ix2 b d) = A.out b d

/-- A sum over the steps before `j + 1` is the sum over those before `j`, plus step `j`. -/
theorem sum_step (g : Fin 40 → EReal) (j : Fin 40) :
    ∑ k ∈ Finset.univ.filter (fun k : Fin 40 => k.val < j.val + 1), g k = (∑ k ∈ Finset.univ.filter (fun k : Fin 40 => k.val < j.val), g k) + g j := by
  have : Finset.univ.filter (fun k : Fin 40 => k.val < j.val + 1) = insert j (Finset.univ.filter (fun k : Fin 40 => k.val < j.val)) := by
    ext k; simp only [Finset.mem_filter, Finset.mem_univ, true_and, Finset.mem_insert, Fin.ext_iff]; omega
  rw [this, Finset.sum_insert (by simp), add_comm]

theorem IsY.all {X : Vec Ideal S24x7168 .f32} (h : IsY A 40 X) (b : Fin 24) (d : Fin 7168) : X (ix2 b d) = A.y b d := by
  rw [h, Finset.filter_true_of_mem (fun k _ => k.isLt)]
  unfold yterm Spec.Args.y
  rw [Finset.sum_add_distrib]
  refine congrArg₂ (· + ·) ?_ ?_
  · exact (sum_split 40 256 10240 rfl _ (fun j i => A.h b ⟨256 * j.val + i.val, by omega⟩ * A.wd 0 ⟨256 * j.val + i.val, by omega⟩ d) (fun _ _ _ => rfl)).symm
  · exact (sum_split 40 256 10240 rfl _ (fun j i => A.h b ⟨10240 + 256 * j.val + i.val, by omega⟩ * A.wd 1 ⟨256 * j.val + i.val, by omega⟩ d)
      (fun a i hl => by simp only [Nat.add_assoc])).symm

theorem IsT.all {X : Vec Ideal S24x352 .f32} (h : IsT A 40 X) (b : Fin 24) (c : Fin 352) :
    X (ix2 b c) = ∑ f : Fin 20480, A.h b f * A.ad ⟨c.val / 32, by omega⟩ f ⟨c.val % 32, by omega⟩ := by
  rw [h, Finset.filter_true_of_mem (fun k _ => k.isLt)]
  unfold tterm
  rw [Finset.sum_add_distrib, sum_split 2 10240 20480 rfl _ (fun p i => A.h b ⟨10240 * p.val + i.val, by omega⟩
      * A.ad ⟨c.val / 32, by omega⟩ ⟨10240 * p.val + i.val, by omega⟩ ⟨c.val % 32, by omega⟩) (fun _ _ _ => rfl), Fin.sum_univ_two]
  refine congrArg₂ (· + ·) ?_ ?_
  · refine (sum_split 40 256 10240 rfl _ _ (fun j i hl => ?_)).symm
    simp only [clo, Fin.val_zero, Nat.mul_zero, Nat.zero_add]
  · refine (sum_split 40 256 10240 rfl _ _ (fun j i hl => ?_)).symm
    simp only [chi, Fin.val_one, Nat.mul_one, Nat.add_assoc]

/-! ### The low-rank inputs and the results made of them -/

/-- The row's adapter column and scale column as the kernel builds them, on the loads it makes. -/
theorem msk_val (ic : IVec S24x1 32) (sc : FVec Ideal S24x1 .f32) (v : FVec Ideal S24x352 .f32)
    (hi : ∀ b : Fin 24, ic (ix2 b (0 : Fin 1)) = A.idx b) (hs : ∀ (b : Fin 24) (n : Fin 11), A.hit b n → sc (ix2 b (0 : Fin 1)) = A.sc n)
    (b : Fin 24) (c : Fin 352) :
    msk ic sc v (ix2 b c) = if A.hit b ⟨c.val / 32, by omega⟩ then v (ix2 b c) * A.sc ⟨c.val / 32, by omega⟩ else 0 := by
  rw [msk_at, hi]
  by_cases h : A.hit b ⟨c.val / 32, by omega⟩
  · rw [if_pos h, hs b _ h]
    exact if_pos h
  · rw [if_neg h]
    exact if_neg h

theorem cols_val (iv : Fin 24 → BitVec 32) (sv : Fin 11 → EReal) (hi : ∀ b, iv b = A.idx b) (hs : ∀ n, sv n = A.sc n) :
    (∀ b : Fin 24, icol (F := Ideal) iv 24 le_rfl (ix2 b (0 : Fin 1)) = A.idx b)
      ∧ ∀ (b : Fin 24) (n : Fin 11), A.hit b n → scol (F := Ideal) (icol (F := Ideal) iv 24 le_rfl) sv 11 le_rfl (ix2 b (0 : Fin 1)) = A.sc n := by
  have h1 : ∀ b : Fin 24, icol (F := Ideal) iv 24 le_rfl (ix2 b (0 : Fin 1)) = A.idx b := fun b => by rw [icol_at, if_pos b.isLt, hi]
  exact ⟨h1, fun b n hn => (scol_at _ sv 11 le_rfl b n n.isLt ((h1 b).trans hn)).trans (hs n)⟩

/-- The masked gate (`t = 0`) or up (`t = 1`) low-rank input. -/
theorem mg_val (t : Fin 2) (iv : Fin 24 → BitVec 32) (sv : Fin 11 → EReal) (hi : ∀ b, iv b = A.idx b) (hs : ∀ n, sv n = A.sc n)
    (x : Vec Ideal S24x7168 .bf16) (a : Vec Ideal S11x32x7168 .bf16) (hx : ∀ (b : Fin 24) (d : Fin 7168), x (ix2 b d) = A.x b d)
    (ha : ∀ (n : Fin 11) (r : Fin 32) (d : Fin 7168), a (ix3 n r d) = A.ag n d ⟨32 * t.val + r.val, by omega⟩) :
    IsM A t (msk (icol (F := Ideal) iv 24 le_rfl) (scol (F := Ideal) (icol (F := Ideal) iv 24 le_rfl) sv 11 le_rfl) (dotA x a)) := by
  intro b c
  rw [msk_val A _ _ _ (cols_val A iv sv hi hs).1 (cols_val A iv sv hi hs).2, Spec.Args.mg, dotA_at]
  simp only [hx, ha]

/-- Half `t` of the result `s`. -/
theorem s_val (t : Fin 2) (m : FVec Ideal S24x352 .bf16) (hm : IsM A t m) (b : Fin 24) (r : Fin 32) :
    fold m (ix2 b r) = A.s b ⟨32 * t.val + r.val, by omega⟩ := by
  rw [fold_at, Spec.Args.s]
  refine Finset.sum_congr rfl fun n _ => ?_
  rw [hm]
  have e1 : (32 * n.val + r.val) / 32 = n.val := by omega
  have e2 : (32 * n.val + r.val) % 32 = r.val := by omega
  simp only [e1, e2]

/-- The masked down low-rank input, from the whole sum. -/
theorem md_val (iv : Fin 24 → BitVec 32) (sv : Fin 11 → EReal) (hi : ∀ b, iv b = A.idx b) (hs : ∀ n, sv n = A.sc n)
    (T : Vec Ideal S24x352 .f32) (hT : IsT A 40 T) (b : Fin 24) (n : Fin 11) (r : Fin 32) :
    msk (icol (F := Ideal) iv 24 le_rfl) (scol (F := Ideal) (icol (F := Ideal) iv 24 le_rfl) sv 11 le_rfl) T (ix2 b (⟨32 * n.val + r.val, by omega⟩ : Fin 352)) = A.md b n r := by
  rw [msk_val A _ _ _ (cols_val A iv sv hi hs).1 (cols_val A iv sv hi hs).2, IsT.all A hT, Spec.Args.md]
  have e1 : (32 * n.val + r.val) / 32 = n.val := by omega
  have e2 : (32 * n.val + r.val) % 32 = r.val := by omega
  simp only [e1, e2]

theorem t_val (iv : Fin 24 → BitVec 32) (sv : Fin 11 → EReal) (hi : ∀ b, iv b = A.idx b) (hs : ∀ n, sv n = A.sc n)
    (T : Vec Ideal S24x352 .f32) (hT : IsT A 40 T) :
    IsTt A (fold (msk (icol (F := Ideal) iv 24 le_rfl) (scol (F := Ideal) (icol (F := Ideal) iv 24 le_rfl) sv 11 le_rfl) T)) := by
  intro b r
  rw [fold_at, Spec.Args.t]
  exact Finset.sum_congr rfl fun n _ => md_val A iv sv hi hs T hT b n r

theorem out_val (iv : Fin 24 → BitVec 32) (sv : Fin 11 → EReal) (hi : ∀ b, iv b = A.idx b) (hs : ∀ n, sv n = A.sc n)
    (T : Vec Ideal S24x352 .f32) (hT : IsT A 40 T) (y : Vec Ideal S24x7168 .f32) (hy : IsY A 40 y) (bd : Vec Ideal S11x32x7168 .bf16)
    (hb : ∀ (n : Fin 11) (r : Fin 32) (d : Fin 7168), bd (ix3 n r d) = A.bd n r d) :
    IsOut A (outv (msk (icol (F := Ideal) iv 24 le_rfl) (scol (F := Ideal) (icol (F := Ideal) iv 24 le_rfl) sv 11 le_rfl) T) y bd) := by
  intro b d
  rw [outv_at, IsY.all A hy, Spec.Args.out]
  refine congrArg (A.y b d + ·) ?_
  refine Finset.sum_congr rfl fun n _ => Finset.sum_congr rfl fun r _ => ?_
  rw [md_val A iv sv hi hs T hT, hb]

/-! ### The step -/

/-- 256 columns of `h`. -/
theorem h_val (f' : Fin 256 → Fin 20480) (xi : Vec Ideal S32x7168 .bf16) (m0 m1 : Vec Ideal S24x352 .bf16) (v0 v1 : Vec Ideal S56x256 .bf16)
    (c0 c1 : Fin 28 → Vec Ideal S128x256 .i8) (b0 b1 : Vec Ideal S11x1x32x256 .bf16) (hx : IsXI A xi) (hm0 : IsM A 0 m0) (hm1 : IsM A 1 m1)
    (hv0 : ∀ (g : Fin 56) (f : Fin 256), v0 (ix2 g f) = A.gs g (gcol 0 (f' f)))
    (hv1 : ∀ (g : Fin 56) (f : Fin 256), v1 (ix2 g f) = A.gs g (gcol 1 (f' f)))
    (hc0 : ∀ (g : Fin 28) (r : Fin 128) (f : Fin 256), c0 g (ix2 r f) = A.gc ⟨128 * g.val + r.val, by omega⟩ (gcol 0 (f' f)))
    (hc1 : ∀ (g : Fin 28) (r : Fin 128) (f : Fin 256), c1 g (ix2 r f) = A.gc ⟨128 * g.val + r.val, by omega⟩ (gcol 1 (f' f)))
    (hb0 : ∀ (n : Fin 11) (r : Fin 32) (f : Fin 256), b0 (ix4 n (0 : Fin 1) r f) = A.bg n 0 r (f' f))
    (hb1 : ∀ (n : Fin 11) (r : Fin 32) (f : Fin 256), b1 (ix4 n (0 : Fin 1) r f) = A.bg n 1 r (f' f))
    (b : Fin 24) (f : Fin 256) :
    act (gate xi m0 v0 c0 b0) (gate xi m1 v1 c1 b1) (ix2 b f) = A.h b (f' f) := by
  rw [act_at, gate_at A 0 f' xi m0 v0 c0 b0 hx hm0 hv0 hc0 hb0, gate_at A 1 f' xi m1 v1 c1 b1 hx hm1 hv1 hc1 hb1]
  rfl

/-- The next running sum of the low-rank input of down. -/
theorem t_step (j : Fin 40) (hlo hhi : FVec Ideal S24x256 .bf16) (T : Vec Ideal S24x352 .f32) (alo ahi : Vec Ideal S11x32x256 .bf16)
    (hl : ∀ (b : Fin 24) (f : Fin 256), hlo (ix2 b f) = A.h b (clo j f)) (hh : ∀ (b : Fin 24) (f : Fin 256), hhi (ix2 b f) = A.h b (chi j f))
    (hal : ∀ (n : Fin 11) (r : Fin 32) (f : Fin 256), alo (ix3 n r f) = A.ad n (clo j f) r)
    (hah : ∀ (n : Fin 11) (r : Fin 32) (f : Fin 256), ahi (ix3 n r f) = A.ad n (chi j f) r) (hT : IsT A j.val T) :
    IsT A (j.val + 1) (tstep hlo hhi T alo ahi) := by
  intro b c
  rw [tstep_at, sum_step, hT]
  simp only [hl, hh, hal, hah]
  rfl

/-- The next running sum of the down projection. -/
theorem y_step (j : Fin 40) (hlo hhi : FVec Ideal S24x256 .bf16) (a0 b0 a1 b1 : Vec Ideal S1x7168 .f32) (c0 c1 : Vec Ideal S128x7168 .i8) (Y : Vec Ideal S24x7168 .f32)
    (hl : ∀ (b : Fin 24) (f : Fin 256), hlo (ix2 b f) = A.h b (clo j f)) (hh : ∀ (b : Fin 24) (f : Fin 256), hhi (ix2 b f) = A.h b (chi j f))
    (ha0 : ∀ d : Fin 7168, a0 (ix2 (0 : Fin 1) d) = A.ds ⟨2 * j.val, by omega⟩ d)
    (hb0 : ∀ d : Fin 7168, b0 (ix2 (0 : Fin 1) d) = A.ds ⟨80 + 2 * j.val, by omega⟩ d)
    (ha1 : ∀ d : Fin 7168, a1 (ix2 (0 : Fin 1) d) = A.ds ⟨2 * j.val + 1, by omega⟩ d)
    (hb1 : ∀ d : Fin 7168, b1 (ix2 (0 : Fin 1) d) = A.ds ⟨80 + 2 * j.val + 1, by omega⟩ d)
    (hc0 : ∀ (r : Fin 128) (d : Fin 7168), c0 (ix2 r d) = A.dc ⟨256 * j.val + r.val, by omega⟩ d)
    (hc1 : ∀ (r : Fin 128) (d : Fin 7168), c1 (ix2 r d) = A.dc ⟨256 * j.val + 128 + r.val, by omega⟩ d) (hY : IsY A j.val Y) :
    IsY A (j.val + 1) (ystep (ilv hlo hhi) (deqd a0 b0 c0) (deqd a1 b1 c1) Y) := by
  intro b d
  rw [sum_step, ystep_at A j _ a0 b0 a1 b1 c0 c1 Y ?_ ha0 hb0 ha1 hb1 hc0 hc1, hY]
  · rfl
  · intro b k
    rw [ilv_at, hl, hh]
    rcases Nat.mod_two_eq_zero_or_one k.val with h | h
    · rw [if_pos h]; simp only [clo, h, Nat.zero_mul, Nat.zero_add]
    · rw [if_neg (by omega)]; simp only [chi, h, Nat.one_mul]

end Cert.KernelIdeal.Body
-- ==== Proof.ValTriple.lean ====
module

public import proofs.«01_k».proof.Proof.Setup
public import proofs.«01_k».proof.Proof.StepCore

/-! The triple of one step, with what the buffers hold stated: the scratch and the results as far as they are filled. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The scratch before step `n`: the rearranged input, the two low-rank inputs and the two running sums. Before the first step it
    holds anything. -/
def SCv (A : Spec.Args) (c : Dev nD) (n : ℕ) (a0 : Memref sig .tc .vmem S32x7168 .bf16) (a1 : Memref sig .tc .vmem S24x352 .bf16) (a2 : Memref sig .tc .vmem S24x352 .bf16) (a3 : Memref sig .tc .vmem S24x7168 .f32) (a4 : Memref sig .tc .vmem S24x352 .f32) : sProp 𝕄 :=
  iprop(∃ X0 X1 X2 X3 X4, ⌜n ≠ 0 → IsXI A X0 ∧ IsM A 0 X1 ∧ IsM A 1 X2 ∧ IsY A n X3 ∧ IsT A n X4⌝
    ∗ owns (c : Thread nD τ) a0 fullShare X0 ∗ owns (c : Thread nD τ) a1 fullShare X1 ∗ owns (c : Thread nD τ) a2 fullShare X2 ∗ owns (c : Thread nD τ) a3 fullShare X3 ∗ owns (c : Thread nD τ) a4 fullShare X4)

/-- A buffer owned at contents that meet `P`. -/
def Sat (c : Dev nD) {sh : Shape} {e : EltTy} (a : Memref sig .tc .vmem sh e) (P : (sh.Idx → Elt Ideal e) → Prop) : sProp 𝕄 :=
  iprop(∃ X, ⌜P X⌝ ∗ owns (c : Thread nD τ) a fullShare X)

theorem sat_of (c : Dev nD) {sh : Shape} {e : EltTy} (a : Memref sig .tc .vmem sh e) (P : (sh.Idx → Elt Ideal e) → Prop) (f : a.view.ty.Contents (Elt Ideal))
    (h : P (a.view.read (Elt Ideal) f)) : (a.view.loc (c : Thread nD τ) ↦[a.view.set]{fullShare} f : sProp 𝕄) ⊢ Sat c a P := by
  unfold Sat
  iintro H
  iexists (a.view.read (Elt Ideal) f)
  isplitr
  · ipureintro; exact h
  · iapply (owns_intro (c : Thread nD τ) a fullShare f)
    iexact H

theorem sat_owns (c : Dev nD) {sh : Shape} {e : EltTy} (a : Memref sig .tc .vmem sh e) (P : (sh.Idx → Elt Ideal e) → Prop) (X : sh.Idx → Elt Ideal e)
    (h : P X) : (owns (c : Thread nD τ) a fullShare X : sProp 𝕄) ⊢ Sat c a P := by
  unfold Sat
  iintro H
  iexists X
  isplitr
  · ipureintro; exact h
  · iexact H

theorem sat_any (c : Dev nD) {sh : Shape} {e : EltTy} (a : Memref sig .tc .vmem sh e) (P : (sh.Idx → Elt Ideal e) → Prop)
    (h : ∀ X, P X) : iprop(∃ d, owns (c : Thread nD τ) a fullShare d : sProp 𝕄) ⊢ Sat c a P := by
  iintro ⟨%d, H⟩
  iapply (sat_owns c a P d (h d))
  iexact H

/-- Step `j`: from `h` filled before it and the scratch before it, to `h` and the scratch after it, `s` complete, and `out` and `t`
    complete after the last. -/
def BodyVal (A : Spec.Args) (j : ℕ) (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) : Prop :=
  ∀ (d20 : Vec Ideal S24x20480 .bf16) (d21 : Vec Ideal S24x64 .bf16) (hH : IsH A j d20) (hS : j ≠ 0 → IsS A d21) (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare d20 ∗ owns (c : Thread nD τ) arg22 fullShare d21 ∗ (∃ d, owns (c : Thread nD τ) arg23 fullShare d)
        ∗ SCv A c j arg24 arg25 arg26 arg27 arg28
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ Sat c arg20 (fun X => j = 39 → IsOut A X) ∗ Sat c arg21 (IsH A (j + 1)) ∗ Sat c arg22 (IsS A) ∗ Sat c arg23 (fun X => j = 39 → IsTt A X)
            ∗ SCv A c (j + 1) arg24 arg25 arg26 arg27 arg28) -∗ K ⟨⟩))
      ⊢ wp frame (wpE (defs₀ (F := Ideal)) Variants.none c none) E (cc0_mlp_lora_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K

end Cert.KernelIdeal.Body
-- ==== Proof.RunA.lean ====
module

public import proofs.«01_k».proof.Proof.Setup

/-! The idealized kernel's body run through once, at the first step (grid point 0): the scratch is filled, then the step's tile. The contents every buffer ends with are
    read off the run and named. -/

@[expose] public section

-- the long axes of the blocks need deep recursion
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4576000 in
/-- The body's triple at the first point (both the scratch initialisation and the step): what every store leaves, as pieces (last first), is found by the run itself.
    Inputs are handed back as they were; `h`'s buffer keeps what it held outside the pieces the point wrote. -/
noncomputable def bodyRun_A (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    Σ' (L20 : List (View.Piece (Elt F) S24x20480 .bf16)), Σ' (L21 : List (View.Piece (Elt F) S24x64 .bf16)), Σ' (LS0 : List (View.Piece (Elt F) S32x7168 .bf16)), Σ' (LS1 : List (View.Piece (Elt F) S24x352 .bf16)), Σ' (LS2 : List (View.Piece (Elt F) S24x352 .bf16)), Σ' (LS3 : List (View.Piece (Elt F) S24x7168 .f32)), { LS4 : List (View.Piece (Elt F) S24x352 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare d20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (arg21.view.loc (c : Thread nD τ) ↦[arg21.view.set]{fullShare} arg21.view.writes (Elt F) (harg21.unread d20) L20) ∗ (∃ f, arg22.view.loc (c : Thread nD τ) ↦[arg22.view.set]{fullShare} arg22.view.writes (Elt F) f L21) ∗ (∃ d, owns (c : Thread nD τ) arg23 fullShare d) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mlp_lora_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, fun E K => ?run⟩
  case run =>
    simp only [cc0_mlp_lora_decode_eq_skeleton]; unfold cc0_mlp_lora_decode_skel
    simp only [k0_part118_eq_skeleton, k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part119_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg21.eq_unread hf20; obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]; · iexact H20
    isplitl [H21]; · iexists _; iexact H21
    isplitl [H22]
    · iexists _, _; isplitr; swap; · iexact H22
      ipureintro; rfl
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.StepVal.lean ====
module

public import proofs.«01_k».proof.Proof.StepCore

/-! What a step's stores put into each buffer, as functions of the buffers it loads from, and that these are the matching parts
    of the results when the windows' blocks are the matching parts of the arguments. -/

@[expose] public section

set_option maxRecDepth 16384

noncomputable section

namespace Cert.KernelIdeal.Body

open Cert Cert.KernelIdeal Cert.KernelIdeal.Gen
open Idealize.ShloMosaic Idealize.ShloMosaic.Pointwise
open scoped BigOperators

section Defs
variable {F : FTy → Type} [FloatOps F]

/-- 256 columns of `h`, from the loads of one half. -/
def hV (xi : Vec F S32x7168 .bf16) (m0 m1 : Vec F S24x352 .bf16)
    (ac0 : Memref sig .tc .vmem S3584x256 .i8) (hc0 : ac0.IsWhole) (c0 : Vec F S3584x256 .i8)
    (ac1 : Memref sig .tc .vmem S3584x256 .i8) (hc1 : ac1.IsWhole) (c1 : Vec F S3584x256 .i8)
    (av0 : Memref sig .tc .vmem S56x256 .bf16) (hv0 : av0.IsWhole) (v0 : Vec F S56x256 .bf16)
    (av1 : Memref sig .tc .vmem S56x256 .bf16) (hv1 : av1.IsWhole) (v1 : Vec F S56x256 .bf16)
    (ab : Memref sig .tc .vmem S11x2x32x256 .bf16) (hb : ab.IsWhole) (b : Vec F S11x2x32x256 .bf16) : FVec F S24x256 .bf16 :=
  act
    (gate xi m0 (View.readAt (Elt F) av0.view (Rect.unit (s := S56x256) ![0, 0] S56x256.size inb_S56x256_S56x256_0_0).toLoadRect (hv0.unread v0)) (codes ac0 hc0 c0)
      (View.readAt (Elt F) ab.view (Rect.unit (s := S11x2x32x256) ![0, 0, 0, 0] S11x1x32x256.size inb_S11x2x32x256_S11x1x32x256_0_0_0_0).toLoadRect (hb.unread b)))
    (gate xi m1 (View.readAt (Elt F) av1.view (Rect.unit (s := S56x256) ![0, 0] S56x256.size inb_S56x256_S56x256_0_0).toLoadRect (hv1.unread v1)) (codes ac1 hc1 c1)
      (View.readAt (Elt F) ab.view (Rect.unit (s := S11x2x32x256) ![0, 1, 0, 0] S11x1x32x256.size inb_S11x2x32x256_S11x1x32x256_0_1_0_0).toLoadRect (hb.unread b)))

/-- The next running sum of the low-rank input of down. -/
def tV (hlo hhi : FVec F S24x256 .bf16) (T : Vec F S24x352 .f32)
    (al : Memref sig .tc .vmem S11x32x256 .bf16) (hl : al.IsWhole) (l : Vec F S11x32x256 .bf16)
    (ah : Memref sig .tc .vmem S11x32x256 .bf16) (hh : ah.IsWhole) (h : Vec F S11x32x256 .bf16) : FVec F S24x352 .f32 :=
  shapeCast S24x352 (tstep hlo hhi T
    (View.readAt (Elt F) al.view (Rect.unit (s := S11x32x256) ![0, 0, 0] S11x32x256.size inb_S11x32x256_S11x32x256_0_0_0).toLoadRect (hl.unread l))
    (View.readAt (Elt F) ah.view (Rect.unit (s := S11x32x256) ![0, 0, 0] S11x32x256.size inb_S11x32x256_S11x32x256_0_0_0).toLoadRect (hh.unread h)))
    shapeCasts_S24x352_S24x352

/-- The next running sum of the down projection. -/
def yV (i : grid0.Coords) (hlo hhi : FVec F S24x256 .bf16) (Y : Vec F S24x7168 .f32)
    (ac : Memref sig .tc .vmem S256x7168 .i8) (hc : ac.IsWhole) (c : Vec F S256x7168 .i8)
    (asd : Memref sig .tc .vmem S160x7168 .f32) (hs : asd.IsWhole) (s : Vec F S160x7168 .f32) : FVec F S24x7168 .f32 :=
  shapeCast S24x7168 (ystep (ilv hlo hhi)
    (deqd (View.readAt (Elt F) asd.view (Rect.unit (s := S160x7168) (k0_off3 i 0#32) S1x7168.size (k0_off3_inb i 0)).toLoadRect (hs.unread s))
      (View.readAt (Elt F) asd.view (Rect.unit (s := S160x7168) (k0_off4 i 0#32) S1x7168.size (k0_off4_inb i 0)).toLoadRect (hs.unread s))
      (View.readAt (Elt F) ac.view (Rect.unit (s := S256x7168) ![0, 0] S128x7168.size inb_S256x7168_S128x7168_0_0).toLoadRect (hc.unread c)))
    (deqd (View.readAt (Elt F) asd.view (Rect.unit (s := S160x7168) (k0_off3 i 1#32) S1x7168.size (k0_off3_inb i 1)).toLoadRect (hs.unread s))
      (View.readAt (Elt F) asd.view (Rect.unit (s := S160x7168) (k0_off4 i 1#32) S1x7168.size (k0_off4_inb i 1)).toLoadRect (hs.unread s))
      (View.readAt (Elt F) ac.view (Rect.unit (s := S256x7168) ![128, 0] S128x7168.size inb_S256x7168_S128x7168_128_0).toLoadRect (hc.unread c)))
    Y) shapeCasts_S24x7168_S24x7168

/-- The adapter numbers and the scales, loaded one by one from scalar memory. -/
def idxV (a : Memref sig .tc .smem S24 .i32) (h : a.IsWhole) (x : Vec F S24 .i32) : Fin 24 → Elt F .i32 := fun g =>
  View.readAt (Elt F) a.view (Rect.unit (s := S24) ![g.val] S1.size (inb_24 g)).toLoadRect (h.unread x) (Shape.Idx.first (s := S1) (by decide))
def scV (a : Memref sig .tc .smem S11 .f32) (h : a.IsWhole) (x : Vec F S11 .f32) : Fin 11 → Elt F .f32 := fun g =>
  View.readAt (Elt F) a.view (Rect.unit (s := S11) ![g.val] S1.size (inb_11 g)).toLoadRect (h.unread x) (Shape.Idx.first (s := S1) (by decide))

/-- A vector masked to the rows' adapters and scaled, with the numbers and scales loaded from scalar memory. -/
def mskV (a1 : Memref sig .tc .smem S24 .i32) (h1 : a1.IsWhole) (x0 : Vec F S24 .i32) (a2 : Memref sig .tc .smem S11 .f32) (h2 : a2.IsWhole) (x1 : Vec F S11 .f32)
    (v : FVec F S24x352 .f32) : FVec F S24x352 .bf16 :=
  msk (icol (F := F) (idxV a1 h1 x0) 24 le_rfl) (scol (F := F) (icol (F := F) (idxV a1 h1 x0) 24 le_rfl) (scV a2 h2 x1) 11 le_rfl) v

/-- The low-rank product of gate (rows `0 … 31` of the adapters' ranks) and of up (rows `32 … 63`). -/
def dot0 (ax : Memref sig .tc .vmem S24x7168 .bf16) (hx : ax.IsWhole) (x2 : Vec F S24x7168 .bf16)
    (aa : Memref sig .tc .vmem S11x64x7168 .bf16) (ha : aa.IsWhole) (x3 : Vec F S11x64x7168 .bf16) : FVec F S24x352 .f32 :=
  dotA (View.readAt (Elt F) ax.view (Rect.unit (s := S24x7168) ![0, 0] S24x7168.size inb_S24x7168_S24x7168_0_0).toLoadRect (hx.unread x2))
    (View.readAt (Elt F) aa.view (Rect.unit (s := S11x64x7168) ![0, 0, 0] S11x32x7168.size inb_S11x64x7168_S11x32x7168_0_0_0).toLoadRect (ha.unread x3))
def dot1 (ax : Memref sig .tc .vmem S24x7168 .bf16) (hx : ax.IsWhole) (x2 : Vec F S24x7168 .bf16)
    (aa : Memref sig .tc .vmem S11x64x7168 .bf16) (ha : aa.IsWhole) (x3 : Vec F S11x64x7168 .bf16) : FVec F S24x352 .f32 :=
  dotA (View.readAt (Elt F) ax.view (Rect.unit (s := S24x7168) ![0, 0] S24x7168.size inb_S24x7168_S24x7168_0_0).toLoadRect (hx.unread x2))
    (View.readAt (Elt F) aa.view (Rect.unit (s := S11x64x7168) ![0, 32, 0] S11x32x7168.size inb_S11x64x7168_S11x32x7168_0_32_0).toLoadRect (ha.unread x3))

/-- The stores that fill the rearranged input: eight zero rows, and 28 pieces of 256 columns. -/
theorem inb_xi (g : Fin 28) : ∀ a, (![0, 256 * g.val] : Fin 2 → ℕ) a + S24x256.size a ≤ S32x7168.size a := by revert g; decide
def xiL (ax : Memref sig .tc .vmem S24x7168 .bf16) (hx : ax.IsWhole) (x2 : Vec F S24x7168 .bf16) : List (View.Piece (Elt F) S32x7168 .bf16) :=
  ⟨Rect.unit (s := S32x7168) ![24, 0] S8x7168.size inb_S32x7168_S8x7168_24_0, k0_pay184⟩ ::
  List.ofFn fun g : Fin 28 => ⟨Rect.unit (s := S32x7168) ![0, 256 * (⟨27 - g.val, by omega⟩ : Fin 28).val] S24x256.size (inb_xi _),
    xip (View.readAt (Elt F) ax.view (Rect.unit (s := S24x7168) ![0, 0] S24x7168.size inb_S24x7168_S24x7168_0_0).toLoadRect (hx.unread x2)) ⟨27 - g.val, by omega⟩⟩
end Defs

/-! ### Offsets -/

theorem off1_val (i : grid0.Coords) : k0_off1 i = ![0, 256 * (i 0).val] := by
  have : ∀ n : Fin 40, (Scalar.indexCast (Scalar.muli (BitVec.ofNat 32 n.val) 256#32)).toNat = 256 * n.val := by decide
  funext a
  fin_cases a
  · rfl
  · exact this ⟨(i 0).val, (i 0).isLt⟩
theorem off2_val (i : grid0.Coords) : k0_off2 i = ![0, 10240 + 256 * (i 0).val] := by
  have : ∀ n : Fin 40, (Scalar.indexCast (Scalar.addi 10240#32 (Scalar.muli (BitVec.ofNat 32 n.val) 256#32))).toNat = 10240 + 256 * n.val := by decide
  funext a
  fin_cases a
  · rfl
  · exact this ⟨(i 0).val, (i 0).isLt⟩
theorem off3_val (i : grid0.Coords) (p : Fin 2) : k0_off3 i (BitVec.ofNat 32 p.val) = ![2 * (i 0).val + p.val, 0] := by
  have : ∀ (n : Fin 40) (p : Fin 2), (Scalar.indexCast (Scalar.addi (Scalar.muli (BitVec.ofNat 32 n.val) 2#32) (BitVec.ofNat 32 p.val))).toNat = 2 * n.val + p.val := by decide
  funext a
  fin_cases a
  · exact this ⟨(i 0).val, (i 0).isLt⟩ p
  · rfl
theorem off4_val (i : grid0.Coords) (p : Fin 2) : k0_off4 i (BitVec.ofNat 32 p.val) = ![80 + 2 * (i 0).val + p.val, 0] := by
  have : ∀ (n : Fin 40) (p : Fin 2), (Scalar.indexCast (Scalar.addi (Scalar.addi (Scalar.muli (BitVec.ofNat 32 n.val) 2#32) (BitVec.ofNat 32 p.val)) 80#32)).toNat = 80 + 2 * n.val + p.val := by decide
  funext a
  fin_cases a
  · exact this ⟨(i 0).val, (i 0).isLt⟩ p
  · rfl

/-! ### Values -/

variable (A : Spec.Args)

theorem whole2_at {sp : Space} {e : EltTy} {n0 n1 : ℕ} (m : Memref sig .tc sp ⟨2, ![n0, n1]⟩ e) (h : m.IsWhole) (X : Vec Ideal ⟨2, ![n0, n1]⟩ e)
    (inb : ∀ a, (![0, 0] : Fin 2 → ℕ) a + (![n0, n1] : Fin 2 → ℕ) a ≤ (![n0, n1] : Fin 2 → ℕ) a) (p : Fin n0) (q : Fin n1) :
    View.readAt (Elt Ideal) m.view (Rect.unit (s := ⟨2, ![n0, n1]⟩) ![0, 0] ![n0, n1] inb).toLoadRect (h.unread X) (ix2 p q) = X (ix2 p q) :=
  rd_at m h X inb _ _ (fun a => by fin_cases a <;> simp [ix2])

theorem hV_val (f' : Fin 256 → Fin 20480) (xi : Vec Ideal S32x7168 .bf16) (m0 m1 : Vec Ideal S24x352 .bf16)
    (ac0 : Memref sig .tc .vmem S3584x256 .i8) (hc0 : ac0.IsWhole) (c0 : Vec Ideal S3584x256 .i8)
    (ac1 : Memref sig .tc .vmem S3584x256 .i8) (hc1 : ac1.IsWhole) (c1 : Vec Ideal S3584x256 .i8)
    (av0 : Memref sig .tc .vmem S56x256 .bf16) (hv0 : av0.IsWhole) (v0 : Vec Ideal S56x256 .bf16)
    (av1 : Memref sig .tc .vmem S56x256 .bf16) (hv1 : av1.IsWhole) (v1 : Vec Ideal S56x256 .bf16)
    (ab : Memref sig .tc .vmem S11x2x32x256 .bf16) (hb : ab.IsWhole) (b : Vec Ideal S11x2x32x256 .bf16)
    (hx : IsXI A xi) (hm0 : IsM A 0 m0) (hm1 : IsM A 1 m1)
    (gc0 : ∀ (i : Fin 3584) (f : Fin 256), c0 (ix2 i f) = A.gc i (gcol 0 (f' f))) (gc1 : ∀ (i : Fin 3584) (f : Fin 256), c1 (ix2 i f) = A.gc i (gcol 1 (f' f)))
    (gv0 : ∀ (i : Fin 56) (f : Fin 256), v0 (ix2 i f) = A.gs i (gcol 0 (f' f))) (gv1 : ∀ (i : Fin 56) (f : Fin 256), v1 (ix2 i f) = A.gs i (gcol 1 (f' f)))
    (gb : ∀ (n : Fin 11) (t : Fin 2) (r : Fin 32) (f : Fin 256), b (ix4 n t r f) = A.bg n t r (f' f)) (q : Fin 24) (f : Fin 256) :
    hV xi m0 m1 ac0 hc0 c0 ac1 hc1 c1 av0 hv0 v0 av1 hv1 v1 ab hb b (ix2 q f) = A.h q (f' f) := by
  have hcodes : ∀ (a : Memref sig .tc .vmem S3584x256 .i8) (h : a.IsWhole) (x : Vec Ideal S3584x256 .i8) (g : Fin 28) (r : Fin 128) (f : Fin 256),
      codes a h x g (ix2 r f) = x (ix2 (⟨128 * g.val + r.val, by omega⟩ : Fin 3584) f) := fun a h x g r f =>
    rd_at a h x (inb_codes g) _ _ (fun a => by fin_cases a <;> simp [ix2])
  refine h_val A f' xi m0 m1 _ _ _ _ _ _ hx hm0 hm1 (fun g f => ?_) (fun g f => ?_) (fun g r f => ?_) (fun g r f => ?_) (fun n r f => ?_) (fun n r f => ?_) q f
  · exact (whole2_at av0 hv0 v0 _ g f).trans (gv0 g f)
  · exact (whole2_at av1 hv1 v1 _ g f).trans (gv1 g f)
  · exact (hcodes ac0 hc0 c0 g r f).trans (gc0 _ f)
  · exact (hcodes ac1 hc1 c1 g r f).trans (gc1 _ f)
  · exact (rd_at ab hb b _ _ (ix4 n (0 : Fin 2) r f) (fun a => by fin_cases a <;> simp [ix4])).trans (gb n 0 r f)
  · exact (rd_at ab hb b _ _ (ix4 n (1 : Fin 2) r f) (fun a => by fin_cases a <;> simp [ix4])).trans (gb n 1 r f)

theorem tV_val (j : Fin 40) (hlo hhi : FVec Ideal S24x256 .bf16) (T : Vec Ideal S24x352 .f32)
    (al : Memref sig .tc .vmem S11x32x256 .bf16) (hl : al.IsWhole) (l : Vec Ideal S11x32x256 .bf16)
    (ah : Memref sig .tc .vmem S11x32x256 .bf16) (hh : ah.IsWhole) (h : Vec Ideal S11x32x256 .bf16)
    (el : ∀ (b : Fin 24) (f : Fin 256), hlo (ix2 b f) = A.h b (clo j f)) (eh : ∀ (b : Fin 24) (f : Fin 256), hhi (ix2 b f) = A.h b (chi j f))
    (hal : ∀ (n : Fin 11) (r : Fin 32) (f : Fin 256), l (ix3 n r f) = A.ad n (clo j f) r)
    (hah : ∀ (n : Fin 11) (r : Fin 32) (f : Fin 256), h (ix3 n r f) = A.ad n (chi j f) r) (hT : IsT A j.val T) :
    IsT A (j.val + 1) (tV hlo hhi T al hl l ah hh h) := by
  intro b c
  unfold tV
  pointwise
  refine t_step A j hlo hhi T _ _ el eh (fun n r f => ?_) (fun n r f => ?_) hT b c
  · exact (rd_at al hl l _ _ (ix3 n r f) (fun a => by fin_cases a <;> simp [ix3])).trans (hal n r f)
  · exact (rd_at ah hh h _ _ (ix3 n r f) (fun a => by fin_cases a <;> simp [ix3])).trans (hah n r f)

theorem yV_val (i : grid0.Coords) (j : Fin 40) (hi : (i 0).val = j.val) (hlo hhi : FVec Ideal S24x256 .bf16) (Y : Vec Ideal S24x7168 .f32)
    (ac : Memref sig .tc .vmem S256x7168 .i8) (hc : ac.IsWhole) (c : Vec Ideal S256x7168 .i8)
    (asd : Memref sig .tc .vmem S160x7168 .f32) (hs : asd.IsWhole) (s : Vec Ideal S160x7168 .f32)
    (el : ∀ (b : Fin 24) (f : Fin 256), hlo (ix2 b f) = A.h b (clo j f)) (eh : ∀ (b : Fin 24) (f : Fin 256), hhi (ix2 b f) = A.h b (chi j f))
    (ec : ∀ (r : Fin 256) (d : Fin 7168), c (ix2 r d) = A.dc ⟨256 * j.val + r.val, by omega⟩ d)
    (es : ∀ (g : Fin 160) (d : Fin 7168), s (ix2 g d) = A.ds g d) (hY : IsY A j.val Y) :
    IsY A (j.val + 1) (yV i hlo hhi Y ac hc c asd hs s) := by
  have o3 := fun p => congrFun (off3_val i p) 0
  have o3' := fun p => congrFun (off3_val i p) 1
  have o4 := fun p => congrFun (off4_val i p) 0
  have o4' := fun p => congrFun (off4_val i p) 1
  intro b d
  unfold yV
  pointwise
  refine y_step A j hlo hhi _ _ _ _ _ _ Y el eh (fun d => ?_) (fun d => ?_) (fun d => ?_) (fun d => ?_) (fun r d => ?_) (fun r d => ?_) hY b d
  · refine (rd_at asd hs s (k0_off3_inb i 0) _ (ix2 (⟨2 * j.val, by omega⟩ : Fin 160) d) (fun a => ?_)).trans (es _ d)
    fin_cases a
    · have := o3 0; simp [ix2, hi] at this ⊢; omega
    · have := o3' 0; simp [ix2] at this ⊢; omega
  · refine (rd_at asd hs s (k0_off4_inb i 0) _ (ix2 (⟨80 + 2 * j.val, by omega⟩ : Fin 160) d) (fun a => ?_)).trans (es _ d)
    fin_cases a
    · have := o4 0; simp [ix2, hi] at this ⊢; omega
    · have := o4' 0; simp [ix2] at this ⊢; omega
  · refine (rd_at asd hs s (k0_off3_inb i 1) _ (ix2 (⟨2 * j.val + 1, by omega⟩ : Fin 160) d) (fun a => ?_)).trans (es _ d)
    fin_cases a
    · have := o3 1; simp [ix2, hi] at this ⊢; omega
    · have := o3' 1; simp [ix2] at this ⊢; omega
  · refine (rd_at asd hs s (k0_off4_inb i 1) _ (ix2 (⟨80 + 2 * j.val + 1, by omega⟩ : Fin 160) d) (fun a => ?_)).trans (es _ d)
    fin_cases a
    · have := o4 1; simp [ix2, hi] at this ⊢; omega
    · have := o4' 1; simp [ix2] at this ⊢; omega
  · exact (rd_at ac hc c _ _ (ix2 (⟨r.val, by omega⟩ : Fin 256) d) (fun a => by fin_cases a <;> simp [ix2])).trans (ec _ d)
  · exact (rd_at ac hc c _ _ (ix2 (⟨128 + r.val, by omega⟩ : Fin 256) d) (fun a => by fin_cases a <;> simp [ix2])).trans ((ec _ d).trans (by simp only [Nat.add_assoc]))

theorem idxV_val (a : Memref sig .tc .smem S24 .i32) (h : a.IsWhole) (x : Vec Ideal S24 .i32) (hx : ∀ b : Fin 24, x (ix1 b) = A.idx b) (b : Fin 24) :
    idxV a h x b = A.idx b :=
  (rd_at a h x (inb_24 b) _ (ix1 b) (fun a => by fin_cases a; rfl)).trans (hx b)
theorem scV_val (a : Memref sig .tc .smem S11 .f32) (h : a.IsWhole) (x : Vec Ideal S11 .f32) (hx : ∀ b : Fin 11, x (ix1 b) = A.sc b) (b : Fin 11) :
    scV a h x b = A.sc b :=
  (rd_at a h x (inb_11 b) _ (ix1 b) (fun a => by fin_cases a; rfl)).trans (hx b)

/-- The two low-rank inputs of gate and up, as stored. -/
theorem m0_val (a1 : Memref sig .tc .smem S24 .i32) (h1 : a1.IsWhole) (x0 : Vec Ideal S24 .i32) (a2 : Memref sig .tc .smem S11 .f32) (h2 : a2.IsWhole) (x1 : Vec Ideal S11 .f32)
    (ax : Memref sig .tc .vmem S24x7168 .bf16) (hx : ax.IsWhole) (x2 : Vec Ideal S24x7168 .bf16)
    (aa : Memref sig .tc .vmem S11x64x7168 .bf16) (ha : aa.IsWhole) (x3 : Vec Ideal S11x64x7168 .bf16)
    (e0 : ∀ b : Fin 24, x0 (ix1 b) = A.idx b) (e1 : ∀ b : Fin 11, x1 (ix1 b) = A.sc b) (e2 : ∀ (b : Fin 24) (d : Fin 7168), x2 (ix2 b d) = A.x b d)
    (e3 : ∀ (n : Fin 11) (c : Fin 64) (d : Fin 7168), x3 (ix3 n c d) = A.ag n d c) :
    IsM A 0 (mskV a1 h1 x0 a2 h2 x1 (dot0 ax hx x2 aa ha x3)) := by
  refine mg_val A 0 _ _ (idxV_val A a1 h1 x0 e0) (scV_val A a2 h2 x1 e1) _ _ (fun b d => ?_) (fun n r d => ?_)
  · exact (whole2_at ax hx x2 _ b d).trans (e2 b d)
  · exact (rd_at aa ha x3 _ _ (ix3 n (⟨r.val, by omega⟩ : Fin 64) d) (fun a => by fin_cases a <;> simp [ix3])).trans ((e3 _ _ _).trans (by simp))
theorem m1_val (a1 : Memref sig .tc .smem S24 .i32) (h1 : a1.IsWhole) (x0 : Vec Ideal S24 .i32) (a2 : Memref sig .tc .smem S11 .f32) (h2 : a2.IsWhole) (x1 : Vec Ideal S11 .f32)
    (ax : Memref sig .tc .vmem S24x7168 .bf16) (hx : ax.IsWhole) (x2 : Vec Ideal S24x7168 .bf16)
    (aa : Memref sig .tc .vmem S11x64x7168 .bf16) (ha : aa.IsWhole) (x3 : Vec Ideal S11x64x7168 .bf16)
    (e0 : ∀ b : Fin 24, x0 (ix1 b) = A.idx b) (e1 : ∀ b : Fin 11, x1 (ix1 b) = A.sc b) (e2 : ∀ (b : Fin 24) (d : Fin 7168), x2 (ix2 b d) = A.x b d)
    (e3 : ∀ (n : Fin 11) (c : Fin 64) (d : Fin 7168), x3 (ix3 n c d) = A.ag n d c) :
    IsM A 1 (mskV a1 h1 x0 a2 h2 x1 (dot1 ax hx x2 aa ha x3)) := by
  refine mg_val A 1 _ _ (idxV_val A a1 h1 x0 e0) (scV_val A a2 h2 x1 e1) _ _ (fun b d => ?_) (fun n r d => ?_)
  · exact (whole2_at ax hx x2 _ b d).trans (e2 b d)
  · exact (rd_at aa ha x3 _ _ (ix3 n (⟨32 + r.val, by omega⟩ : Fin 64) d) (fun a => by fin_cases a <;> simp [ix3])).trans (e3 _ _ _)

/-- The two results of the last step, from the completed running sums. -/
theorem outV_val (a1 : Memref sig .tc .smem S24 .i32) (h1 : a1.IsWhole) (x0 : Vec Ideal S24 .i32) (a2 : Memref sig .tc .smem S11 .f32) (h2 : a2.IsWhole) (x1 : Vec Ideal S11 .f32)
    (e0 : ∀ b : Fin 24, x0 (ix1 b) = A.idx b) (e1 : ∀ b : Fin 11, x1 (ix1 b) = A.sc b) (T : FVec Ideal S24x352 .f32) (hT : IsT A 40 T)
    (Y : FVec Ideal S24x7168 .f32) (hY : IsY A 40 Y) (a5 : Memref sig .tc .vmem S11x32x7168 .bf16) (h5 : a5.IsWhole) (x4 : Vec Ideal S11x32x7168 .bf16)
    (e4 : ∀ (n : Fin 11) (r : Fin 32) (d : Fin 7168), x4 (ix3 n r d) = A.bd n r d) :
    IsOut A (outv (mskV a1 h1 x0 a2 h2 x1 T) Y
      (View.readAt (Elt Ideal) a5.view (Rect.unit (s := S11x32x7168) ![0, 0, 0] S11x32x7168.size inb_S11x32x7168_S11x32x7168_0_0_0).toLoadRect (h5.unread x4))) :=
  out_val A (idxV a1 h1 x0) (scV a2 h2 x1) (idxV_val A a1 h1 x0 e0) (scV_val A a2 h2 x1 e1) T hT Y hY _
    (fun n r d => (rd_at a5 h5 x4 _ _ (ix3 n r d) (fun a => by fin_cases a <;> simp [ix3])).trans (e4 n r d))
theorem ttV_val (a1 : Memref sig .tc .smem S24 .i32) (h1 : a1.IsWhole) (x0 : Vec Ideal S24 .i32) (a2 : Memref sig .tc .smem S11 .f32) (h2 : a2.IsWhole) (x1 : Vec Ideal S11 .f32)
    (e0 : ∀ b : Fin 24, x0 (ix1 b) = A.idx b) (e1 : ∀ b : Fin 11, x1 (ix1 b) = A.sc b) (T : FVec Ideal S24x352 .f32) (hT : IsT A 40 T) :
    IsTt A (fold (mskV a1 h1 x0 a2 h2 x1 T)) :=
  t_val A (idxV a1 h1 x0) (scV a2 h2 x1) (idxV_val A a1 h1 x0 e0) (scV_val A a2 h2 x1 e1) T hT

/-- The rearranged input at an index of its buffer, `0` in the eight rows below the batch. -/
def xiG (y : S32x7168.Idx) : EReal :=
  if h : (y 0).val < 24 then A.x ⟨(y 0).val, h⟩ ⟨(y 1).val % 2 * 3584 + (y 1).val / 2, by
    have : (y 1).val < 7168 := (y 1).isLt; omega⟩ else 0
theorem xiG_row (y : S32x7168.Idx) (b : Fin 24) (d : Fin 7168) (hb : (y 0).val = b.val) (hd : (y 1).val % 2 * 3584 + (y 1).val / 2 = d.val) :
    xiG A y = A.x b d := by
  unfold xiG
  rw [dif_pos (by omega)]
  congr 1
  · exact Fin.ext hb
  · exact Fin.ext hd
theorem xiG_zero (y : S32x7168.Idx) (hb : 24 ≤ (y 0).val) : xiG A y = 0 := by
  unfold xiG
  rw [dif_neg (by omega)]

theorem xip_val (X : Vec Ideal S24x7168 .bf16) (hX : ∀ (b : Fin 24) (d : Fin 7168), X (ix2 b d) = A.x b d) (g : Fin 28) (x : S24x256.Idx) :
    xip X g x = xiG A ((Rect.unit (s := S32x7168) ![0, 256 * g.val] S24x256.size (inb_xi g)).emb x) := by
  have h0 : (x 0).val < 24 := (x 0).isLt
  have h1 : (x 1).val < 256 := (x 1).isLt
  have hxe : x = ix2 (⟨(x 0).val, h0⟩ : Fin 24) (⟨(x 1).val, h1⟩ : Fin 256) := by
    funext a; fin_cases a <;> rfl
  refine ((congrArg (xip X g) hxe).trans (xip_at X g _ _)).trans ((hX _ _).trans (xiG_row A _ _ _ ?_ ?_).symm)
  · show 0 + 1 * (x 0).val = (x 0).val
    omega
  · show (256 * g.val + 1 * (x 1).val) % 2 * 3584 + (256 * g.val + 1 * (x 1).val) / 2 = (x 1).val % 2 * 3584 + 128 * g.val + (x 1).val / 2
    omega

/-- The rearranged input, as its stores leave it. -/
theorem xiL_val {sp : Space} (v : View sig .tc sp S32x7168 .bf16) (f : v.ty.Contents (Elt Ideal))
    (ax : Memref sig .tc .vmem S24x7168 .bf16) (hx : ax.IsWhole) (x2 : Vec Ideal S24x7168 .bf16) (e2 : ∀ (b : Fin 24) (d : Fin 7168), x2 (ix2 b d) = A.x b d) :
    IsXI A (v.read (Elt Ideal) (v.writes (Elt Ideal) f (xiL ax hx x2))) := by
  intro b k
  have hk : k.val / 256 < 28 := by omega
  refine (read_of_pieces v f (xiG A) _ ?_ _ ?_).trans ?_
  · intro p hp x
    rcases List.mem_cons.mp hp with rfl | hp
    · refine Eq.trans ?_ (xiG_zero A _ ?_).symm
      · exact Ideal.ofBits_zero .bf16
      · show 24 ≤ 24 + 1 * (x 0).val
        omega
    · obtain ⟨g, rfl⟩ := List.mem_ofFn.mp hp
      exact xip_val A _ (fun b d => (whole2_at ax hx x2 _ b d).trans (e2 b d)) _ x
  · refine ⟨_, List.mem_cons_of_mem _ (List.mem_ofFn.mpr ⟨⟨27 - k.val / 256, by omega⟩, rfl⟩), ?_⟩
    rw [Rect.mem_set_unit]
    intro a
    fin_cases a
    · simp [ix2]
    · simp [ix2]
      omega
  · exact xiG_row A _ _ _ rfl rfl

/-- The result `h` after step `j`. -/
theorem isH_step (i : grid0.Coords) (j : Fin 40) (hi : (i 0).val = j.val) (v : View sig .tc .vmem S24x20480 .bf16) (f : v.ty.Contents (Elt Ideal))
    (p1 : ∀ a, k0_off1 i a + (![24, 256] : Fin 2 → ℕ) a ≤ S24x20480.size a) (p2 : ∀ a, k0_off2 i a + (![24, 256] : Fin 2 → ℕ) a ≤ S24x20480.size a)
    (hlo hhi : FVec Ideal S24x256 .bf16)
    (el : ∀ (b : Fin 24) (f : Fin 256), hlo (ix2 b f) = A.h b (clo j f)) (eh : ∀ (b : Fin 24) (f : Fin 256), hhi (ix2 b f) = A.h b (chi j f))
    (hH : IsH A j.val (v.read (Elt Ideal) f)) :
    IsH A (j.val + 1) (v.read (Elt Ideal) (v.writes (Elt Ideal) f
      [⟨Rect.unit (s := S24x20480) (k0_off2 i) ![24, 256] p2, hhi⟩, ⟨Rect.unit (s := S24x20480) (k0_off1 i) ![24, 256] p1, hlo⟩])) := by
  intro b q hq
  have ho1 := off1_val i
  have ho2 := off2_val i
  rw [hi] at ho1 ho2
  by_cases h2 : 10240 + 256 * j.val ≤ q.val ∧ q.val < 10240 + 256 * j.val + 256
  · rw [View.read_writes_cons_unit_of_mem v f p2 hhi _ (ix2 b q) (ix2 b (⟨q.val - (10240 + 256 * j.val), by omega⟩ : Fin 256)) ho2
      (fun a => by fin_cases a <;> simp [ix2]; omega)]
    rw [eh]
    congr 1
    apply Fin.ext
    simp only [chi]
    omega
  · rw [View.read_writes_cons_unit_of_not_mem v f p2 hhi _ (ix2 b q) ho2 1 (by simp [ix2]; omega)]
    by_cases h1 : 256 * j.val ≤ q.val ∧ q.val < 256 * j.val + 256
    · rw [View.read_writes_cons_unit_of_mem v f p1 hlo _ (ix2 b q) (ix2 b (⟨q.val - (256 * j.val), by omega⟩ : Fin 256)) ho1
        (fun a => by fin_cases a <;> simp [ix2]; omega)]
      rw [el]
      congr 1
      apply Fin.ext
      simp only [clo]
      omega
    · rw [View.read_writes_cons_unit_of_not_mem v f p1 hlo _ (ix2 b q) ho1 1 (by simp [ix2]; omega)]
      exact hH b q (by omega)

/-- The result `s`: its two halves. -/
theorem isS_val (v : View sig .tc .vmem S24x64 .bf16) (f : v.ty.Contents (Elt Ideal)) (m0 m1 : FVec Ideal S24x352 .bf16) (h0 : IsM A 0 m0) (h1 : IsM A 1 m1) :
    IsS A (v.read (Elt Ideal) (v.writes (Elt Ideal) f
      [⟨Rect.unit (s := S24x64) ![0, 32] ![24, 32] inb_S24x64_S24x32_0_32, fold m1⟩, ⟨Rect.unit (s := S24x64) ![0, 0] ![24, 32] inb_S24x64_S24x32_0_0, fold m0⟩])) := by
  intro b c
  by_cases h : 32 ≤ c.val
  · rw [View.read_writes_cons_unit_of_mem v f inb_S24x64_S24x32_0_32 (fold m1) _ (ix2 b c) (ix2 b (⟨c.val - 32, by omega⟩ : Fin 32)) rfl
      (fun a => by fin_cases a <;> simp [ix2]; omega)]
    rw [s_val A 1 m1 h1]
    congr 1
    apply Fin.ext
    show 32 * 1 + (c.val - 32) = c.val
    omega
  · rw [View.read_writes_cons_unit_of_not_mem v f inb_S24x64_S24x32_0_32 (fold m1) _ (ix2 b c) rfl 1 (by simp [ix2]; omega)]
    rw [View.read_writes_cons_unit_of_mem v f inb_S24x64_S24x32_0_0 (fold m0) _ (ix2 b c) (ix2 b (⟨c.val, by omega⟩ : Fin 32)) rfl
      (fun a => by fin_cases a <;> simp [ix2])]
    rw [s_val A 0 m0 h0]
    congr 1
    apply Fin.ext
    show 32 * 0 + c.val = c.val
    omega

theorem IsM.cast {t : Fin 2} {m : FVec Ideal S24x352 .bf16} (h : IsM A t m) : IsM A t (shapeCast S24x352 m shapeCasts_S24x352_S24x352) := by
  intro b c
  pointwise
  exact h b c

theorem isY_zero : IsY A 0 (k0_pay202 (F := Ideal)) := by
  intro b d
  rw [Finset.filter_false_of_mem (fun k _ => by omega), Finset.sum_empty]
  exact Ideal.ofBits_zero .f32
theorem isT_zero : IsT A 0 (k0_pay213 (F := Ideal)) := by
  intro b d
  rw [Finset.filter_false_of_mem (fun k _ => by omega), Finset.sum_empty]
  exact Ideal.ofBits_zero .f32
theorem isH_zero (X : Vec Ideal S24x20480 .bf16) : IsH A 0 X := fun _ _ h => absurd h (by omega)

end Cert.KernelIdeal.Body
-- ==== Proof.StepA.lean ====
module

public import proofs.«01_k».proof.Proof.RunA
public import proofs.«01_k».proof.Proof.StepVal

/-! The first step: what it stores, and that the stored values are the matching parts of the results. -/

@[expose] public section

set_option maxRecDepth 16384

noncomputable section

namespace Cert.KernelIdeal.Body

open Cert Cert.KernelIdeal Cert.KernelIdeal.Gen
open Idealize.ShloMosaic Idealize.ShloMosaic.Pointwise

section Lists
variable {F : FTy → Type} [FloatOps F]

/-- The low half of the columns of `h` this step makes. -/
def hloA (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg8 : Memref sig .tc .vmem S3584x256 .i8) (harg8 : arg8.IsWhole) (arg10 : Memref sig .tc .vmem S3584x256 .i8) (harg10 : arg10.IsWhole) (arg12 : Memref sig .tc .vmem S56x256 .bf16) (harg12 : arg12.IsWhole) (arg14 : Memref sig .tc .vmem S56x256 .bf16) (harg14 : arg14.IsWhole) (arg16 : Memref sig .tc .vmem S11x2x32x256 .bf16) (harg16 : arg16.IsWhole) (arg24 : Memref sig .tc .vmem S32x7168 .bf16) (arg25 : Memref sig .tc .vmem S24x352 .bf16) (arg26 : Memref sig .tc .vmem S24x352 .bf16) (x0 : Vec F S24 .i32) (x1 : Vec F S11 .f32) (x2 : Vec F S24x7168 .bf16) (x3 : Vec F S11x64x7168 .bf16) (x7 : Vec F S3584x256 .i8) (x9 : Vec F S3584x256 .i8) (x11 : Vec F S56x256 .bf16) (x13 : Vec F S56x256 .bf16) (x15 : Vec F S11x2x32x256 .bf16) : FVec F S24x256 .bf16 :=
  (hV (arg24.view.readCov (Val := Elt F) (xiL arg3 harg3 x2) (Rect.unit (s := S32x7168) ![0, 0] S32x7168.size inb_S32x7168_S32x7168_0_0).toLoadRect) (arg25.view.readCov (Val := Elt F) [⟨(Rect.unit (s := S24x352) ![0, 0] S24x352.size inb_S24x352_S24x352_0_0), (shapeCast S24x352 (mskV arg1 harg1 x0 arg2 harg2 x1 (dot0 arg3 harg3 x2 arg4 harg4 x3)) shapeCasts_S24x352_S24x352)⟩] (Rect.unit (s := S24x352) ![0, 0] S24x352.size inb_S24x352_S24x352_0_0).toLoadRect) (arg26.view.readCov (Val := Elt F) [⟨(Rect.unit (s := S24x352) ![0, 0] S24x352.size inb_S24x352_S24x352_0_0), (shapeCast S24x352 (mskV arg1 harg1 x0 arg2 harg2 x1 (dot1 arg3 harg3 x2 arg4 harg4 x3)) shapeCasts_S24x352_S24x352)⟩] (Rect.unit (s := S24x352) ![0, 0] S24x352.size inb_S24x352_S24x352_0_0).toLoadRect) arg8 harg8 x7 arg10 harg10 x9 arg12 harg12 x11 arg14 harg14 x13 arg16 harg16 x15)

/-- The high half. -/
def hhiA (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg9 : Memref sig .tc .vmem S3584x256 .i8) (harg9 : arg9.IsWhole) (arg11 : Memref sig .tc .vmem S3584x256 .i8) (harg11 : arg11.IsWhole) (arg13 : Memref sig .tc .vmem S56x256 .bf16) (harg13 : arg13.IsWhole) (arg15 : Memref sig .tc .vmem S56x256 .bf16) (harg15 : arg15.IsWhole) (arg17 : Memref sig .tc .vmem S11x2x32x256 .bf16) (harg17 : arg17.IsWhole) (arg24 : Memref sig .tc .vmem S32x7168 .bf16) (arg25 : Memref sig .tc .vmem S24x352 .bf16) (arg26 : Memref sig .tc .vmem S24x352 .bf16) (x0 : Vec F S24 .i32) (x1 : Vec F S11 .f32) (x2 : Vec F S24x7168 .bf16) (x3 : Vec F S11x64x7168 .bf16) (x8 : Vec F S3584x256 .i8) (x10 : Vec F S3584x256 .i8) (x12 : Vec F S56x256 .bf16) (x14 : Vec F S56x256 .bf16) (x16 : Vec F S11x2x32x256 .bf16) : FVec F S24x256 .bf16 :=
  (hV (arg24.view.readCov (Val := Elt F) (xiL arg3 harg3 x2) (Rect.unit (s := S32x7168) ![0, 0] S32x7168.size inb_S32x7168_S32x7168_0_0).toLoadRect) (arg25.view.readCov (Val := Elt F) [⟨(Rect.unit (s := S24x352) ![0, 0] S24x352.size inb_S24x352_S24x352_0_0), (shapeCast S24x352 (mskV arg1 harg1 x0 arg2 harg2 x1 (dot0 arg3 harg3 x2 arg4 harg4 x3)) shapeCasts_S24x352_S24x352)⟩] (Rect.unit (s := S24x352) ![0, 0] S24x352.size inb_S24x352_S24x352_0_0).toLoadRect) (arg26.view.readCov (Val := Elt F) [⟨(Rect.unit (s := S24x352) ![0, 0] S24x352.size inb_S24x352_S24x352_0_0), (shapeCast S24x352 (mskV arg1 harg1 x0 arg2 harg2 x1 (dot1 arg3 harg3 x2 arg4 harg4 x3)) shapeCasts_S24x352_S24x352)⟩] (Rect.unit (s := S24x352) ![0, 0] S24x352.size inb_S24x352_S24x352_0_0).toLoadRect) arg9 harg9 x8 arg11 harg11 x10 arg13 harg13 x12 arg15 harg15 x14 arg17 harg17 x16)

/-- The running sum of the down projection after this step. -/
def yA (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg24 : Memref sig .tc .vmem S32x7168 .bf16) (arg25 : Memref sig .tc .vmem S24x352 .bf16) (arg26 : Memref sig .tc .vmem S24x352 .bf16) (arg27 : Memref sig .tc .vmem S24x7168 .f32) (x0 : Vec F S24 .i32) (x1 : Vec F S11 .f32) (x2 : Vec F S24x7168 .bf16) (x3 : Vec F S11x64x7168 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) : FVec F S24x7168 .f32 :=
  yV i (hloA arg1 harg1 arg2 harg2 arg3 harg3 arg4 harg4 arg8 harg8 arg10 harg10 arg12 harg12 arg14 harg14 arg16 harg16 arg24 arg25 arg26 x0 x1 x2 x3 x7 x9 x11 x13 x15) (hhiA arg1 harg1 arg2 harg2 arg3 harg3 arg4 harg4 arg9 harg9 arg11 harg11 arg13 harg13 arg15 harg15 arg17 harg17 arg24 arg25 arg26 x0 x1 x2 x3 x8 x10 x12 x14 x16) (arg27.view.readCov (Val := Elt F) [⟨(Rect.unit (s := S24x7168) ![0, 0] S24x7168.size inb_S24x7168_S24x7168_0_0), k0_pay202⟩] (Rect.unit (s := S24x7168) ![0, 0] S24x7168.size inb_S24x7168_S24x7168_0_0).toLoadRect) arg18 harg18 x17 arg19 harg19 x18

/-- The running sum of the low-rank input of down after this step. -/
def tA (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg24 : Memref sig .tc .vmem S32x7168 .bf16) (arg25 : Memref sig .tc .vmem S24x352 .bf16) (arg26 : Memref sig .tc .vmem S24x352 .bf16) (arg28 : Memref sig .tc .vmem S24x352 .f32) (x0 : Vec F S24 .i32) (x1 : Vec F S11 .f32) (x2 : Vec F S24x7168 .bf16) (x3 : Vec F S11x64x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) : FVec F S24x352 .f32 :=
  tV (hloA arg1 harg1 arg2 harg2 arg3 harg3 arg4 harg4 arg8 harg8 arg10 harg10 arg12 harg12 arg14 harg14 arg16 harg16 arg24 arg25 arg26 x0 x1 x2 x3 x7 x9 x11 x13 x15) (hhiA arg1 harg1 arg2 harg2 arg3 harg3 arg4 harg4 arg9 harg9 arg11 harg11 arg13 harg13 arg15 harg15 arg17 harg17 arg24 arg25 arg26 x0 x1 x2 x3 x8 x10 x12 x14 x16) (arg28.view.readCov (Val := Elt F) [⟨(Rect.unit (s := S24x352) ![0, 0] S24x352.size inb_S24x352_S24x352_0_0), k0_pay213⟩] (Rect.unit (s := S24x352) ![0, 0] S24x352.size inb_S24x352_S24x352_0_0).toLoadRect) arg6 harg6 x5 arg7 harg7 x6

theorem L20_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).1 = [⟨Rect.unit (s := S24x20480) (k0_off2 i) ![24, 256] (k0_off2_inb i), (hhiA arg1 harg1 arg2 harg2 arg3 harg3 arg4 harg4 arg9 harg9 arg11 harg11 arg13 harg13 arg15 harg15 arg17 harg17 arg24 arg25 arg26 x0 x1 x2 x3 x8 x10 x12 x14 x16)⟩, ⟨Rect.unit (s := S24x20480) (k0_off1 i) ![24, 256] (k0_off1_inb i), (hloA arg1 harg1 arg2 harg2 arg3 harg3 arg4 harg4 arg8 harg8 arg10 harg10 arg12 harg12 arg14 harg14 arg16 harg16 arg24 arg25 arg26 x0 x1 x2 x3 x7 x9 x11 x13 x15)⟩] := rfl

theorem L21_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.1 = [⟨Rect.unit (s := S24x64) ![0, 32] ![24, 32] inb_S24x64_S24x32_0_32, fold (mskV arg1 harg1 x0 arg2 harg2 x1 (dot1 arg3 harg3 x2 arg4 harg4 x3))⟩, ⟨Rect.unit (s := S24x64) ![0, 0] ![24, 32] inb_S24x64_S24x32_0_0, fold (mskV arg1 harg1 x0 arg2 harg2 x1 (dot0 arg3 harg3 x2 arg4 harg4 x3))⟩] := rfl

theorem LS0_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.1 = (xiL arg3 harg3 x2) := rfl

theorem LS1_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.1 = [⟨(Rect.unit (s := S24x352) ![0, 0] S24x352.size inb_S24x352_S24x352_0_0), (shapeCast S24x352 (mskV arg1 harg1 x0 arg2 harg2 x1 (dot0 arg3 harg3 x2 arg4 harg4 x3)) shapeCasts_S24x352_S24x352)⟩] := rfl

theorem LS2_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.1 = [⟨(Rect.unit (s := S24x352) ![0, 0] S24x352.size inb_S24x352_S24x352_0_0), (shapeCast S24x352 (mskV arg1 harg1 x0 arg2 harg2 x1 (dot1 arg3 harg3 x2 arg4 harg4 x3)) shapeCasts_S24x352_S24x352)⟩] := rfl

theorem LS3_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.1 = (⟨(Rect.unit (s := S24x7168) ![0, 0] S24x7168.size inb_S24x7168_S24x7168_0_0), (yA i arg1 harg1 arg2 harg2 arg3 harg3 arg4 harg4 arg8 harg8 arg9 harg9 arg10 harg10 arg11 harg11 arg12 harg12 arg13 harg13 arg14 harg14 arg15 harg15 arg16 harg16 arg17 harg17 arg18 harg18 arg19 harg19 arg24 arg25 arg26 arg27 x0 x1 x2 x3 x7 x8 x9 x10 x11 x12 x13 x14 x15 x16 x17 x18)⟩ :: [⟨(Rect.unit (s := S24x7168) ![0, 0] S24x7168.size inb_S24x7168_S24x7168_0_0), k0_pay202⟩]) := rfl

theorem LS4_A  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (d20 : Vec F S24x20480 .bf16) :
    (bodyRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.2.1 = (⟨(Rect.unit (s := S24x352) ![0, 0] S24x352.size inb_S24x352_S24x352_0_0), (tA arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg24 arg25 arg26 arg28 x0 x1 x2 x3 x5 x6 x7 x8 x9 x10 x11 x12 x13 x14 x15 x16)⟩ :: [⟨(Rect.unit (s := S24x352) ![0, 0] S24x352.size inb_S24x352_S24x352_0_0), k0_pay213⟩]) := rfl

end Lists

section Values

theorem hloA_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (A : Spec.Args) (j : Fin 40) (hj : j.val = 0) (hi : (i 0).val = j.val) (B : Blk A j x0 x1 x2 x3 x4 x5 x6 x7 x8 x9 x10 x11 x12 x13 x14 x15 x16 x17 x18) (b : Fin 24) (f : Fin 256) :
    (hloA arg1 harg1 arg2 harg2 arg3 harg3 arg4 harg4 arg8 harg8 arg10 harg10 arg12 harg12 arg14 harg14 arg16 harg16 arg24 arg25 arg26 x0 x1 x2 x3 x7 x9 x11 x13 x15) (ix2 b f) = A.h b (clo j f) :=
  hV_val A (clo j) _ _ _ arg8 harg8 x7 arg10 harg10 x9 arg12 harg12 x11 arg14 harg14 x13 arg16 harg16 x15
    (by rw [View.readCov, View.readAt_full]; exact xiL_val A _ _ arg3 harg3 x2 B.x)
    (by rw [View.readCov_full]; exact (m0_val A arg1 harg1 x0 arg2 harg2 x1 arg3 harg3 x2 arg4 harg4 x3 B.idx B.sc B.x B.ag).cast A)
    (by rw [View.readCov_full]; exact (m1_val A arg1 harg1 x0 arg2 harg2 x1 arg3 harg3 x2 arg4 harg4 x3 B.idx B.sc B.x B.ag).cast A)
    B.cgl B.cul B.sgl B.sul B.bll b f

theorem hhiA_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (A : Spec.Args) (j : Fin 40) (hj : j.val = 0) (hi : (i 0).val = j.val) (B : Blk A j x0 x1 x2 x3 x4 x5 x6 x7 x8 x9 x10 x11 x12 x13 x14 x15 x16 x17 x18) (b : Fin 24) (f : Fin 256) :
    (hhiA arg1 harg1 arg2 harg2 arg3 harg3 arg4 harg4 arg9 harg9 arg11 harg11 arg13 harg13 arg15 harg15 arg17 harg17 arg24 arg25 arg26 x0 x1 x2 x3 x8 x10 x12 x14 x16) (ix2 b f) = A.h b (chi j f) :=
  hV_val A (chi j) _ _ _ arg9 harg9 x8 arg11 harg11 x10 arg13 harg13 x12 arg15 harg15 x14 arg17 harg17 x16
    (by rw [View.readCov, View.readAt_full]; exact xiL_val A _ _ arg3 harg3 x2 B.x)
    (by rw [View.readCov_full]; exact (m0_val A arg1 harg1 x0 arg2 harg2 x1 arg3 harg3 x2 arg4 harg4 x3 B.idx B.sc B.x B.ag).cast A)
    (by rw [View.readCov_full]; exact (m1_val A arg1 harg1 x0 arg2 harg2 x1 arg3 harg3 x2 arg4 harg4 x3 B.idx B.sc B.x B.ag).cast A)
    B.cgh B.cuh B.sgh B.suh B.blh b f

theorem yA_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (A : Spec.Args) (j : Fin 40) (hj : j.val = 0) (hi : (i 0).val = j.val) (B : Blk A j x0 x1 x2 x3 x4 x5 x6 x7 x8 x9 x10 x11 x12 x13 x14 x15 x16 x17 x18) : IsY A (j.val + 1) (yA i arg1 harg1 arg2 harg2 arg3 harg3 arg4 harg4 arg8 harg8 arg9 harg9 arg10 harg10 arg11 harg11 arg12 harg12 arg13 harg13 arg14 harg14 arg15 harg15 arg16 harg16 arg17 harg17 arg18 harg18 arg19 harg19 arg24 arg25 arg26 arg27 x0 x1 x2 x3 x7 x8 x9 x10 x11 x12 x13 x14 x15 x16 x17 x18) :=
  yV_val A i j hi _ _ _ arg18 harg18 x17 arg19 harg19 x18 (hloA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) (hhiA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) B.dc B.ds
    (by rw [View.readCov_full, hj]; exact isY_zero A)

theorem tA_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (A : Spec.Args) (j : Fin 40) (hj : j.val = 0) (hi : (i 0).val = j.val) (B : Blk A j x0 x1 x2 x3 x4 x5 x6 x7 x8 x9 x10 x11 x12 x13 x14 x15 x16 x17 x18) : IsT A (j.val + 1) (tA arg1 harg1 arg2 harg2 arg3 harg3 arg4 harg4 arg6 harg6 arg7 harg7 arg8 harg8 arg9 harg9 arg10 harg10 arg11 harg11 arg12 harg12 arg13 harg13 arg14 harg14 arg15 harg15 arg16 harg16 arg17 harg17 arg24 arg25 arg26 arg28 x0 x1 x2 x3 x5 x6 x7 x8 x9 x10 x11 x12 x13 x14 x15 x16) :=
  tV_val A j _ _ _ arg6 harg6 x5 arg7 harg7 x6 (hloA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) (hhiA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) B.adl B.adh
    (by rw [View.readCov_full, hj]; exact isT_zero A)

/-- After the first step: the scratch, `s`, and the first blocks of `h` and of the two running sums. -/
theorem stepA  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : cond0_0 i) (hc1 : ¬cond0_1 i)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (d20 : Vec Ideal S24x20480 .bf16)
    (A : Spec.Args) (j : Fin 40) (hj : j.val = 0) (hi : (i 0).val = j.val) (B : Blk A j x0 x1 x2 x3 x4 x5 x6 x7 x8 x9 x10 x11 x12 x13 x14 x15 x16 x17 x18) :
    (∀ f, IsXI A (arg24.view.read (Elt Ideal) (arg24.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.1)))
    ∧ (∀ f, IsM A 0 (arg25.view.read (Elt Ideal) (arg25.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.1)))
    ∧ (∀ f, IsM A 1 (arg26.view.read (Elt Ideal) (arg26.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.1)))
    ∧ (∀ f, IsS A (arg22.view.read (Elt Ideal) (arg22.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.1)))
    ∧ IsH A (j.val + 1) (arg21.view.read (Elt Ideal) (arg21.view.writes (Elt Ideal) (harg21.unread d20) (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).1))
    ∧ (∀ f, IsY A (j.val + 1) (arg27.view.read (Elt Ideal) (arg27.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.1)))
    ∧ (∀ f, IsT A (j.val + 1) (arg28.view.read (Elt Ideal) (arg28.view.writes (Elt Ideal) f (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.2.1))) :=
  ⟨fun f => by rw [LS0_A]; exact xiL_val A _ _ arg3 harg3 x2 B.x,
   fun f => by rw [LS1_A, View.read_writes_full]; exact (m0_val A arg1 harg1 x0 arg2 harg2 x1 arg3 harg3 x2 arg4 harg4 x3 B.idx B.sc B.x B.ag).cast A,
   fun f => by rw [LS2_A, View.read_writes_full]; exact (m1_val A arg1 harg1 x0 arg2 harg2 x1 arg3 harg3 x2 arg4 harg4 x3 B.idx B.sc B.x B.ag).cast A,
   fun f => by rw [L21_A]; exact isS_val A _ _ _ _ (m0_val A arg1 harg1 x0 arg2 harg2 x1 arg3 harg3 x2 arg4 harg4 x3 B.idx B.sc B.x B.ag) (m1_val A arg1 harg1 x0 arg2 harg2 x1 arg3 harg3 x2 arg4 harg4 x3 B.idx B.sc B.x B.ag),
   by rw [L20_A]; exact isH_step A i j hi _ _ _ _ _ _ (hloA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) (hhiA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B) (by rw [hj]; exact isH_zero A _),
   fun f => by rw [LS3_A, View.read_writes_full]; exact yA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B,
   fun f => by rw [LS4_A, View.read_writes_full]; exact tA_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 A j hj hi B⟩

end Values

end Cert.KernelIdeal.Body
-- ==== Proof.ValA.lean ====
module

public import proofs.«01_k».proof.Proof.ValTriple
public import proofs.«01_k».proof.Proof.StepA

/-! The triple `BodyVal` at the first step (grid point 0): the scratch is filled, then the step's tile. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 3200000 in
/-- The first step. -/
theorem val_A (A : Spec.Args) (j : Fin 40) (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (hc0 : cond0_0 i) (hc1 : ¬cond0_1 i) (hj : j.val = 0) (hi : (i 0).val = j.val) (B : Blk A j x0 x1 x2 x3 x4 x5 x6 x7 x8 x9 x10 x11 x12 x13 x14 x15 x16 x17 x18) :
    BodyVal A j.val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro d20 d21 hH hS E K
  obtain ⟨eXI, eM0, eM1, eS, eH, eY, eT⟩ := stepA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20 A j hj hi B
  unfold SCv
  iintro ⟨H0, H1, H2, H3, H4, H5, H6, H7, H8, H9, H10, H11, H12, H13, H14, H15, H16, H17, H18, H19, H20, H21, H22, ⟨%X0, %X1, %X2, %X3, %X4, %hX, HS0, HS1, HS2, HS3, HS4⟩, Hk⟩
  iapply ((bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists d21; iexact H21
  isplitl [H22]; · iexact H22
  isplitl [HS0]; · iexists X0; iexact HS0
  isplitl [HS1]; · iexists X1; iexact HS1
  isplitl [HS2]; · iexists X2; iexact HS2
  isplitl [HS3]; · iexists X3; iexact HS3
  isplitl [HS4]; · iexists X4; iexact HS4
  iintro ⟨H0, H1, H2, H3, H4, H5, H6, H7, H8, H9, H10, H11, H12, H13, H14, H15, H16, H17, H18, H19, H20, ⟨%f21, H21⟩, H22, ⟨%g0, HS0⟩, ⟨%g1, HS1⟩, ⟨%g2, HS2⟩, ⟨%g3, HS3⟩, ⟨%g4, HS4⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (sat_any c arg20 _ (fun _ h => absurd h (by omega))); iexact H19
  isplitl [H20]; · iapply (sat_of c arg21 _ _ eH); iexact H20
  isplitl [H21]; · iapply (sat_of c arg22 _ _ (eS f21)); iexact H21
  isplitl [H22]; · iapply (sat_any c arg23 _ (fun _ h => absurd h (by omega))); iexact H22
  iexists (arg24.view.read (Elt Ideal) (arg24.view.writes (Elt Ideal) g0 (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.1))
  iexists (arg25.view.read (Elt Ideal) (arg25.view.writes (Elt Ideal) g1 (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.1))
  iexists (arg26.view.read (Elt Ideal) (arg26.view.writes (Elt Ideal) g2 (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.1))
  iexists (arg27.view.read (Elt Ideal) (arg27.view.writes (Elt Ideal) g3 (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.1))
  iexists (arg28.view.read (Elt Ideal) (arg28.view.writes (Elt Ideal) g4 (bodyRun_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 d20).2.2.2.2.2.2.1))
  isplitr; · ipureintro; exact fun _ => ⟨eXI g0, eM0 g1, eM1 g2, eY g3, eT g4⟩
  isplitl [HS0]; · iapply (owns_intro (c : Thread nD τ) arg24 fullShare _); iexact HS0
  isplitl [HS1]; · iapply (owns_intro (c : Thread nD τ) arg25 fullShare _); iexact HS1
  isplitl [HS2]; · iapply (owns_intro (c : Thread nD τ) arg26 fullShare _); iexact HS2
  isplitl [HS3]; · iapply (owns_intro (c : Thread nD τ) arg27 fullShare _); iexact HS3
  iapply (owns_intro (c : Thread nD τ) arg28 fullShare _); iexact HS4

end Cert.KernelIdeal.Body
-- ==== Proof.RunB.lean ====
module

public import proofs.«01_k».proof.Proof.RunA

/-! The idealized kernel's body run through once, at a step between the first and the last. The contents every buffer ends with are
    read off the run and named. -/

@[expose] public section

-- the long axes of the blocks need deep recursion
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3624000 in
/-- The body's triple at a middle point (the step alone): what every store leaves, as pieces (last first), is found by the run itself.
    Inputs are handed back as they were; `h`'s buffer keeps what it held outside the pieces the point wrote. -/
noncomputable def bodyRun_B (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    Σ' (L20 : List (View.Piece (Elt F) S24x20480 .bf16)), Σ' (LS3 : List (View.Piece (Elt F) S24x7168 .f32)), { LS4 : List (View.Piece (Elt F) S24x352 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare d20 ∗ owns (c : Thread nD τ) arg22 fullShare d21 ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (arg21.view.loc (c : Thread nD τ) ↦[arg21.view.set]{fullShare} arg21.view.writes (Elt F) (harg21.unread d20) L20) ∗ owns (c : Thread nD τ) arg22 fullShare d21 ∗ (∃ d, owns (c : Thread nD τ) arg23 fullShare d) ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mlp_lora_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, fun E K => ?run⟩
  case run =>
    simp only [cc0_mlp_lora_decode_eq_skeleton]; unfold cc0_mlp_lora_decode_skel
    simp only [k0_part118_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part119_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg21.eq_unread hf20; obtain rfl := harg22.eq_unread hf21; obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]; · iexact H20
    isplitl [H21]
    · iexists _; isplitr; · ipureintro; exact harg22.read_unread _
      iexact H21
    isplitl [H22]
    · iexists _, _; isplitr; swap; · iexact H22
      ipureintro; rfl
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    iexists _; iexact HS4

end Cert.KernelIdeal.Body

end
-- ==== Proof.StepB.lean ====
module

public import proofs.«01_k».proof.Proof.RunB
public import proofs.«01_k».proof.Proof.StepVal

/-! A step in the middle: what it stores, and that the stored values are the matching parts of the results. -/

@[expose] public section

set_option maxRecDepth 16384

noncomputable section

namespace Cert.KernelIdeal.Body

open Cert Cert.KernelIdeal Cert.KernelIdeal.Gen
open Idealize.ShloMosaic Idealize.ShloMosaic.Pointwise

section Lists
variable {F : FTy → Type} [FloatOps F]

/-- The low half of the columns of `h` this step makes. -/
def hloB (arg8 : Memref sig .tc .vmem S3584x256 .i8) (harg8 : arg8.IsWhole) (arg10 : Memref sig .tc .vmem S3584x256 .i8) (harg10 : arg10.IsWhole) (arg12 : Memref sig .tc .vmem S56x256 .bf16) (harg12 : arg12.IsWhole) (arg14 : Memref sig .tc .vmem S56x256 .bf16) (harg14 : arg14.IsWhole) (arg16 : Memref sig .tc .vmem S11x2x32x256 .bf16) (harg16 : arg16.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (x7 : Vec F S3584x256 .i8) (x9 : Vec F S3584x256 .i8) (x11 : Vec F S56x256 .bf16) (x13 : Vec F S56x256 .bf16) (x15 : Vec F S11x2x32x256 .bf16) (xs0 : Vec F S32x7168 .bf16) (xs1 : Vec F S24x352 .bf16) (xs2 : Vec F S24x352 .bf16) : FVec F S24x256 .bf16 :=
  (hV (View.readAt (Elt F) arg24.view (Rect.unit (s := S32x7168) ![0, 0] S32x7168.size inb_S32x7168_S32x7168_0_0).toLoadRect (harg24.unread xs0)) (View.readAt (Elt F) arg25.view (Rect.unit (s := S24x352) ![0, 0] S24x352.size inb_S24x352_S24x352_0_0).toLoadRect (harg25.unread xs1)) (View.readAt (Elt F) arg26.view (Rect.unit (s := S24x352) ![0, 0] S24x352.size inb_S24x352_S24x352_0_0).toLoadRect (harg26.unread xs2)) arg8 harg8 x7 arg10 harg10 x9 arg12 harg12 x11 arg14 harg14 x13 arg16 harg16 x15)

/-- The high half. -/
def hhiB (arg9 : Memref sig .tc .vmem S3584x256 .i8) (harg9 : arg9.IsWhole) (arg11 : Memref sig .tc .vmem S3584x256 .i8) (harg11 : arg11.IsWhole) (arg13 : Memref sig .tc .vmem S56x256 .bf16) (harg13 : arg13.IsWhole) (arg15 : Memref sig .tc .vmem S56x256 .bf16) (harg15 : arg15.IsWhole) (arg17 : Memref sig .tc .vmem S11x2x32x256 .bf16) (harg17 : arg17.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (x8 : Vec F S3584x256 .i8) (x10 : Vec F S3584x256 .i8) (x12 : Vec F S56x256 .bf16) (x14 : Vec F S56x256 .bf16) (x16 : Vec F S11x2x32x256 .bf16) (xs0 : Vec F S32x7168 .bf16) (xs1 : Vec F S24x352 .bf16) (xs2 : Vec F S24x352 .bf16) : FVec F S24x256 .bf16 :=
  (hV (View.readAt (Elt F) arg24.view (Rect.unit (s := S32x7168) ![0, 0] S32x7168.size inb_S32x7168_S32x7168_0_0).toLoadRect (harg24.unread xs0)) (View.readAt (Elt F) arg25.view (Rect.unit (s := S24x352) ![0, 0] S24x352.size inb_S24x352_S24x352_0_0).toLoadRect (harg25.unread xs1)) (View.readAt (Elt F) arg26.view (Rect.unit (s := S24x352) ![0, 0] S24x352.size inb_S24x352_S24x352_0_0).toLoadRect (harg26.unread xs2)) arg9 harg9 x8 arg11 harg11 x10 arg13 harg13 x12 arg15 harg15 x14 arg17 harg17 x16)

/-- The running sum of the down projection after this step. -/
def yB (i : grid0.Coords) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) : FVec F S24x7168 .f32 :=
  yV i (hloB arg8 harg8 arg10 harg10 arg12 harg12 arg14 harg14 arg16 harg16 arg24 harg24 arg25 harg25 arg26 harg26 x7 x9 x11 x13 x15 xs0 xs1 xs2) (hhiB arg9 harg9 arg11 harg11 arg13 harg13 arg15 harg15 arg17 harg17 arg24 harg24 arg25 harg25 arg26 harg26 x8 x10 x12 x14 x16 xs0 xs1 xs2) (View.readAt (Elt F) arg27.view (Rect.unit (s := S24x7168) ![0, 0] S24x7168.size inb_S24x7168_S24x7168_0_0).toLoadRect (harg27.unread xs3)) arg18 harg18 x17 arg19 harg19 x18

/-- The running sum of the low-rank input of down after this step. -/
def tB (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg28 : Memref sig .tc .vmem S24x352 .f32) (harg28 : arg28.IsWhole) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (xs0 : Vec F S32x7168 .bf16) (xs1 : Vec F S24x352 .bf16) (xs2 : Vec F S24x352 .bf16) (xs4 : Vec F S24x352 .f32) : FVec F S24x352 .f32 :=
  tV (hloB arg8 harg8 arg10 harg10 arg12 harg12 arg14 harg14 arg16 harg16 arg24 harg24 arg25 harg25 arg26 harg26 x7 x9 x11 x13 x15 xs0 xs1 xs2) (hhiB arg9 harg9 arg11 harg11 arg13 harg13 arg15 harg15 arg17 harg17 arg24 harg24 arg25 harg25 arg26 harg26 x8 x10 x12 x14 x16 xs0 xs1 xs2) (View.readAt (Elt F) arg28.view (Rect.unit (s := S24x352) ![0, 0] S24x352.size inb_S24x352_S24x352_0_0).toLoadRect (harg28.unread xs4)) arg6 harg6 x5 arg7 harg7 x6

theorem L20_B  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).1 = [⟨Rect.unit (s := S24x20480) (k0_off2 i) ![24, 256] (k0_off2_inb i), (hhiB arg9 harg9 arg11 harg11 arg13 harg13 arg15 harg15 arg17 harg17 arg24 harg24 arg25 harg25 arg26 harg26 x8 x10 x12 x14 x16 xs0 xs1 xs2)⟩, ⟨Rect.unit (s := S24x20480) (k0_off1 i) ![24, 256] (k0_off1_inb i), (hloB arg8 harg8 arg10 harg10 arg12 harg12 arg14 harg14 arg16 harg16 arg24 harg24 arg25 harg25 arg26 harg26 x7 x9 x11 x13 x15 xs0 xs1 xs2)⟩] := rfl

theorem LS3_B  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.1 = [⟨(Rect.unit (s := S24x7168) ![0, 0] S24x7168.size inb_S24x7168_S24x7168_0_0), (yB i arg8 harg8 arg9 harg9 arg10 harg10 arg11 harg11 arg12 harg12 arg13 harg13 arg14 harg14 arg15 harg15 arg16 harg16 arg17 harg17 arg18 harg18 arg19 harg19 arg24 harg24 arg25 harg25 arg26 harg26 arg27 harg27 x7 x8 x9 x10 x11 x12 x13 x14 x15 x16 x17 x18 xs0 xs1 xs2 xs3)⟩] := rfl

theorem LS4_B  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : ¬cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.1 = [⟨(Rect.unit (s := S24x352) ![0, 0] S24x352.size inb_S24x352_S24x352_0_0), (tB arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4)⟩] := rfl

end Lists

section Values

theorem hloB_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (b : Fin 24) (f : Fin 256) :
    (hloB arg8 harg8 arg10 harg10 arg12 harg12 arg14 harg14 arg16 harg16 arg24 harg24 arg25 harg25 arg26 harg26 x7 x9 x11 x13 x15 xs0 xs1 xs2) (ix2 b f) = A.h b (clo j f) :=
  hV_val A (clo j) _ _ _ arg8 harg8 x7 arg10 harg10 x9 arg12 harg12 x11 arg14 harg14 x13 arg16 harg16 x15
    (fun b k => (whole2_at arg24 harg24 xs0 _ _ _).trans (hx b k))
    (fun b k => (whole2_at arg25 harg25 xs1 _ _ _).trans (hm0 b k))
    (fun b k => (whole2_at arg26 harg26 xs2 _ _ _).trans (hm1 b k))
    B.cgl B.cul B.sgl B.sul B.bll b f

theorem hhiB_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (b : Fin 24) (f : Fin 256) :
    (hhiB arg9 harg9 arg11 harg11 arg13 harg13 arg15 harg15 arg17 harg17 arg24 harg24 arg25 harg25 arg26 harg26 x8 x10 x12 x14 x16 xs0 xs1 xs2) (ix2 b f) = A.h b (chi j f) :=
  hV_val A (chi j) _ _ _ arg9 harg9 x8 arg11 harg11 x10 arg13 harg13 x12 arg15 harg15 x14 arg17 harg17 x16
    (fun b k => (whole2_at arg24 harg24 xs0 _ _ _).trans (hx b k))
    (fun b k => (whole2_at arg25 harg25 xs1 _ _ _).trans (hm0 b k))
    (fun b k => (whole2_at arg26 harg26 xs2 _ _ _).trans (hm1 b k))
    B.cgh B.cuh B.sgh B.suh B.blh b f

theorem yB_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) : IsY A (j.val + 1) (yB i arg8 harg8 arg9 harg9 arg10 harg10 arg11 harg11 arg12 harg12 arg13 harg13 arg14 harg14 arg15 harg15 arg16 harg16 arg17 harg17 arg18 harg18 arg19 harg19 arg24 harg24 arg25 harg25 arg26 harg26 arg27 harg27 x7 x8 x9 x10 x11 x12 x13 x14 x15 x16 x17 x18 xs0 xs1 xs2 xs3) :=
  yV_val A i j hi _ _ _ arg18 harg18 x17 arg19 harg19 x18 (hloB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) B.dc B.ds
    (fun b k => (whole2_at arg27 harg27 xs3 _ _ _).trans (hY b k))

theorem tB_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) : IsT A (j.val + 1) (tB arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4) :=
  tV_val A j _ _ _ arg6 harg6 x5 arg7 harg7 x6 (hloB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) B.adl B.adh
    (fun b k => (whole2_at arg28 harg28 xs4 _ _ _).trans (hT b k))

/-- A step in the middle takes `h` and the two running sums from step `j` to step `j + 1`. -/
theorem stepB  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : ¬cond0_1 i)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32) (d20 : Vec Ideal S24x20480 .bf16) (d21 : Vec Ideal S24x64 .bf16)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (hH : IsH A j.val d20) :
    IsH A (j.val + 1) (arg21.view.read (Elt Ideal) (arg21.view.writes (Elt Ideal) (harg21.unread d20) (bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).1))
    ∧ (∀ f, IsY A (j.val + 1) (arg27.view.read (Elt Ideal) (arg27.view.writes (Elt Ideal) f (bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.1)))
    ∧ (∀ f, IsT A (j.val + 1) (arg28.view.read (Elt Ideal) (arg28.view.writes (Elt Ideal) f (bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.1))) :=
  ⟨by rw [L20_B]; exact isH_step A i j hi _ _ _ _ _ _ (hloB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (by rw [harg21.read_unread]; exact hH),
   fun f => by rw [LS3_B, View.read_writes_full]; exact yB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT,
   fun f => by rw [LS4_B, View.read_writes_full]; exact tB_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT⟩

end Values

end Cert.KernelIdeal.Body
-- ==== Proof.ValB.lean ====
module

public import proofs.«01_k».proof.Proof.ValTriple
public import proofs.«01_k».proof.Proof.StepB

/-! The triple `BodyVal` at a step between the first and the last. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 3200000 in
/-- A step in the middle. -/
theorem val_B (A : Spec.Args) (j : Fin 40) (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (hc0 : ¬cond0_0 i) (hc1 : ¬cond0_1 i) (h0 : j.val ≠ 0) (h39 : j.val ≠ 39) (hi : (i 0).val = j.val) (B : Blk A j x0 x1 x2 x3 x4 x5 x6 x7 x8 x9 x10 x11 x12 x13 x14 x15 x16 x17 x18) :
    BodyVal A j.val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro d20 d21 hH hS E K
  unfold SCv
  iintro ⟨H0, H1, H2, H3, H4, H5, H6, H7, H8, H9, H10, H11, H12, H13, H14, H15, H16, H17, H18, H19, H20, H21, H22, ⟨%X0, %X1, %X2, %X3, %X4, %hX, HS0, HS1, HS2, HS3, HS4⟩, Hk⟩
  obtain ⟨hXI, hM0, hM1, hY, hT⟩ := hX h0
  obtain ⟨eH, eY, eT⟩ := stepB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21 A j hi B hXI hM0 hM1 hY hT hH
  iapply ((bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, HS0, HS1, HS2, ⟨%g3, HS3⟩, ⟨%g4, HS4⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (sat_any c arg20 _ (fun _ h => absurd h (by omega))); iexact H19
  isplitl [H20]; · iapply (sat_of c arg21 _ _ eH); iexact H20
  isplitl [H21]; · iapply (sat_owns c arg22 _ d21 (hS h0)); iexact H21
  isplitl [H22]; · iapply (sat_any c arg23 _ (fun _ h => absurd h (by omega))); iexact H22
  iexists X0
  iexists X1
  iexists X2
  iexists (arg27.view.read (Elt Ideal) (arg27.view.writes (Elt Ideal) g3 (bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.1))
  iexists (arg28.view.read (Elt Ideal) (arg28.view.writes (Elt Ideal) g4 (bodyRun_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.2.1))
  isplitr; · ipureintro; exact fun _ => ⟨hXI, hM0, hM1, eY g3, eT g4⟩
  isplitl [HS0]; · iexact HS0
  isplitl [HS1]; · iexact HS1
  isplitl [HS2]; · iexact HS2
  isplitl [HS3]; · iapply (owns_intro (c : Thread nD τ) arg27 fullShare _); iexact HS3
  iapply (owns_intro (c : Thread nD τ) arg28 fullShare _); iexact HS4

end Cert.KernelIdeal.Body
-- ==== Proof.RunC.lean ====
module

public import proofs.«01_k».proof.Proof.RunB

/-! The idealized kernel's body run through once, at the last step: its tile, then the results `t` and `out`. The contents every buffer ends with are
    read off the run and named. -/

@[expose] public section

-- the long axes of the blocks need deep recursion
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3836000 in
/-- The body's triple at the last point (the step and the results that are written there): what every store leaves, as pieces (last first), is found by the run itself.
    Inputs are handed back as they were; `h`'s buffer keeps what it held outside the pieces the point wrote. -/
noncomputable def bodyRun_C (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    Σ' (L19 : List (View.Piece (Elt F) S24x7168 .bf16)), Σ' (L20 : List (View.Piece (Elt F) S24x20480 .bf16)), Σ' (L22 : List (View.Piece (Elt F) S24x32 .bf16)), Σ' (LS3 : List (View.Piece (Elt F) S24x7168 .f32)), { LS4 : List (View.Piece (Elt F) S24x352 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare d20 ∗ owns (c : Thread nD τ) arg22 fullShare d21 ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (arg21.view.loc (c : Thread nD τ) ↦[arg21.view.set]{fullShare} arg21.view.writes (Elt F) (harg21.unread d20) L20) ∗ owns (c : Thread nD τ) arg22 fullShare d21 ∗ (∃ f, arg23.view.loc (c : Thread nD τ) ↦[arg23.view.set]{fullShare} arg23.view.writes (Elt F) f L22) ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4)) -∗ K ⟨⟩))
          ⊢ wp frame (wpE (defs₀ (F := F)) Variants.none c none) E (cc0_mlp_lora_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mlp_lora_decode_eq_skeleton]; unfold cc0_mlp_lora_decode_skel
    simp only [k0_part118_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part119_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part44_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg21.eq_unread hf20; obtain rfl := harg22.eq_unread hf21; obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexact H20
    isplitl [H21]
    · iexists _; isplitr; · ipureintro; exact harg22.read_unread _
      iexact H21
    isplitl [H22]; · iexists _; iexact H22
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    iexists _; iexact HS4

end Cert.KernelIdeal.Body

end
-- ==== Proof.StepC.lean ====
module

public import proofs.«01_k».proof.Proof.RunC
public import proofs.«01_k».proof.Proof.StepVal

/-! The last step: what it stores, and that the stored values are the matching parts of the results. -/

@[expose] public section

set_option maxRecDepth 16384

noncomputable section

namespace Cert.KernelIdeal.Body

open Cert Cert.KernelIdeal Cert.KernelIdeal.Gen
open Idealize.ShloMosaic Idealize.ShloMosaic.Pointwise

section Lists
variable {F : FTy → Type} [FloatOps F]

/-- The low half of the columns of `h` this step makes. -/
def hloC (arg8 : Memref sig .tc .vmem S3584x256 .i8) (harg8 : arg8.IsWhole) (arg10 : Memref sig .tc .vmem S3584x256 .i8) (harg10 : arg10.IsWhole) (arg12 : Memref sig .tc .vmem S56x256 .bf16) (harg12 : arg12.IsWhole) (arg14 : Memref sig .tc .vmem S56x256 .bf16) (harg14 : arg14.IsWhole) (arg16 : Memref sig .tc .vmem S11x2x32x256 .bf16) (harg16 : arg16.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (x7 : Vec F S3584x256 .i8) (x9 : Vec F S3584x256 .i8) (x11 : Vec F S56x256 .bf16) (x13 : Vec F S56x256 .bf16) (x15 : Vec F S11x2x32x256 .bf16) (xs0 : Vec F S32x7168 .bf16) (xs1 : Vec F S24x352 .bf16) (xs2 : Vec F S24x352 .bf16) : FVec F S24x256 .bf16 :=
  (hV (View.readAt (Elt F) arg24.view (Rect.unit (s := S32x7168) ![0, 0] S32x7168.size inb_S32x7168_S32x7168_0_0).toLoadRect (harg24.unread xs0)) (View.readAt (Elt F) arg25.view (Rect.unit (s := S24x352) ![0, 0] S24x352.size inb_S24x352_S24x352_0_0).toLoadRect (harg25.unread xs1)) (View.readAt (Elt F) arg26.view (Rect.unit (s := S24x352) ![0, 0] S24x352.size inb_S24x352_S24x352_0_0).toLoadRect (harg26.unread xs2)) arg8 harg8 x7 arg10 harg10 x9 arg12 harg12 x11 arg14 harg14 x13 arg16 harg16 x15)

/-- The high half. -/
def hhiC (arg9 : Memref sig .tc .vmem S3584x256 .i8) (harg9 : arg9.IsWhole) (arg11 : Memref sig .tc .vmem S3584x256 .i8) (harg11 : arg11.IsWhole) (arg13 : Memref sig .tc .vmem S56x256 .bf16) (harg13 : arg13.IsWhole) (arg15 : Memref sig .tc .vmem S56x256 .bf16) (harg15 : arg15.IsWhole) (arg17 : Memref sig .tc .vmem S11x2x32x256 .bf16) (harg17 : arg17.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (x8 : Vec F S3584x256 .i8) (x10 : Vec F S3584x256 .i8) (x12 : Vec F S56x256 .bf16) (x14 : Vec F S56x256 .bf16) (x16 : Vec F S11x2x32x256 .bf16) (xs0 : Vec F S32x7168 .bf16) (xs1 : Vec F S24x352 .bf16) (xs2 : Vec F S24x352 .bf16) : FVec F S24x256 .bf16 :=
  (hV (View.readAt (Elt F) arg24.view (Rect.unit (s := S32x7168) ![0, 0] S32x7168.size inb_S32x7168_S32x7168_0_0).toLoadRect (harg24.unread xs0)) (View.readAt (Elt F) arg25.view (Rect.unit (s := S24x352) ![0, 0] S24x352.size inb_S24x352_S24x352_0_0).toLoadRect (harg25.unread xs1)) (View.readAt (Elt F) arg26.view (Rect.unit (s := S24x352) ![0, 0] S24x352.size inb_S24x352_S24x352_0_0).toLoadRect (harg26.unread xs2)) arg9 harg9 x8 arg11 harg11 x10 arg13 harg13 x12 arg15 harg15 x14 arg17 harg17 x16)

/-- The running sum of the down projection after this step. -/
def yC (i : grid0.Coords) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) : FVec F S24x7168 .f32 :=
  yV i (hloC arg8 harg8 arg10 harg10 arg12 harg12 arg14 harg14 arg16 harg16 arg24 harg24 arg25 harg25 arg26 harg26 x7 x9 x11 x13 x15 xs0 xs1 xs2) (hhiC arg9 harg9 arg11 harg11 arg13 harg13 arg15 harg15 arg17 harg17 arg24 harg24 arg25 harg25 arg26 harg26 x8 x10 x12 x14 x16 xs0 xs1 xs2) (View.readAt (Elt F) arg27.view (Rect.unit (s := S24x7168) ![0, 0] S24x7168.size inb_S24x7168_S24x7168_0_0).toLoadRect (harg27.unread xs3)) arg18 harg18 x17 arg19 harg19 x18

/-- The running sum of the low-rank input of down after this step. -/
def tC (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg28 : Memref sig .tc .vmem S24x352 .f32) (harg28 : arg28.IsWhole) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (xs0 : Vec F S32x7168 .bf16) (xs1 : Vec F S24x352 .bf16) (xs2 : Vec F S24x352 .bf16) (xs4 : Vec F S24x352 .f32) : FVec F S24x352 .f32 :=
  tV (hloC arg8 harg8 arg10 harg10 arg12 harg12 arg14 harg14 arg16 harg16 arg24 harg24 arg25 harg25 arg26 harg26 x7 x9 x11 x13 x15 xs0 xs1 xs2) (hhiC arg9 harg9 arg11 harg11 arg13 harg13 arg15 harg15 arg17 harg17 arg24 harg24 arg25 harg25 arg26 harg26 x8 x10 x12 x14 x16 xs0 xs1 xs2) (View.readAt (Elt F) arg28.view (Rect.unit (s := S24x352) ![0, 0] S24x352.size inb_S24x352_S24x352_0_0).toLoadRect (harg28.unread xs4)) arg6 harg6 x5 arg7 harg7 x6

theorem L19_C  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).1 = [⟨(Rect.unit (s := S24x7168) ![0, 0] S24x7168.size inb_S24x7168_S24x7168_0_0), outv (mskV arg1 harg1 x0 arg2 harg2 x1 (arg28.view.readCov (Val := Elt F) [⟨(Rect.unit (s := S24x352) ![0, 0] S24x352.size inb_S24x352_S24x352_0_0), (tC arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4)⟩] (Rect.unit (s := S24x352) ![0, 0] S24x352.size inb_S24x352_S24x352_0_0).toLoadRect)) (arg27.view.readCov (Val := Elt F) [⟨(Rect.unit (s := S24x7168) ![0, 0] S24x7168.size inb_S24x7168_S24x7168_0_0), (yC i arg8 harg8 arg9 harg9 arg10 harg10 arg11 harg11 arg12 harg12 arg13 harg13 arg14 harg14 arg15 harg15 arg16 harg16 arg17 harg17 arg18 harg18 arg19 harg19 arg24 harg24 arg25 harg25 arg26 harg26 arg27 harg27 x7 x8 x9 x10 x11 x12 x13 x14 x15 x16 x17 x18 xs0 xs1 xs2 xs3)⟩] (Rect.unit (s := S24x7168) ![0, 0] S24x7168.size inb_S24x7168_S24x7168_0_0).toLoadRect) (View.readAt (Elt F) arg5.view (Rect.unit (s := S11x32x7168) ![0, 0, 0] S11x32x7168.size inb_S11x32x7168_S11x32x7168_0_0_0).toLoadRect (harg5.unread x4))⟩] := rfl

theorem L20_C  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.1 = [⟨Rect.unit (s := S24x20480) (k0_off2 i) ![24, 256] (k0_off2_inb i), (hhiC arg9 harg9 arg11 harg11 arg13 harg13 arg15 harg15 arg17 harg17 arg24 harg24 arg25 harg25 arg26 harg26 x8 x10 x12 x14 x16 xs0 xs1 xs2)⟩, ⟨Rect.unit (s := S24x20480) (k0_off1 i) ![24, 256] (k0_off1_inb i), (hloC arg8 harg8 arg10 harg10 arg12 harg12 arg14 harg14 arg16 harg16 arg24 harg24 arg25 harg25 arg26 harg26 x7 x9 x11 x13 x15 xs0 xs1 xs2)⟩] := rfl

theorem L22_C  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.1 = [⟨(Rect.unit (s := S24x32) ![0, 0] S24x32.size inb_S24x32_S24x32_0_0), fold (mskV arg1 harg1 x0 arg2 harg2 x1 (arg28.view.readCov (Val := Elt F) [⟨(Rect.unit (s := S24x352) ![0, 0] S24x352.size inb_S24x352_S24x352_0_0), (tC arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4)⟩] (Rect.unit (s := S24x352) ![0, 0] S24x352.size inb_S24x352_S24x352_0_0).toLoadRect))⟩] := rfl

theorem LS3_C  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.2.1 = [⟨(Rect.unit (s := S24x7168) ![0, 0] S24x7168.size inb_S24x7168_S24x7168_0_0), (yC i arg8 harg8 arg9 harg9 arg10 harg10 arg11 harg11 arg12 harg12 arg13 harg13 arg14 harg14 arg15 harg15 arg16 harg16 arg17 harg17 arg18 harg18 arg19 harg19 arg24 harg24 arg25 harg25 arg26 harg26 arg27 harg27 x7 x8 x9 x10 x11 x12 x13 x14 x15 x16 x17 x18 xs0 xs1 xs2 xs3)⟩] := rfl

theorem LS4_C  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec F S24 .i32) (x1 : Vec F S11 .f32) (x2 : Vec F S24x7168 .bf16) (x3 : Vec F S11x64x7168 .bf16) (x4 : Vec F S11x32x7168 .bf16) (x5 : Vec F S11x32x256 .bf16) (x6 : Vec F S11x32x256 .bf16) (x7 : Vec F S3584x256 .i8) (x8 : Vec F S3584x256 .i8) (x9 : Vec F S3584x256 .i8) (x10 : Vec F S3584x256 .i8) (x11 : Vec F S56x256 .bf16) (x12 : Vec F S56x256 .bf16) (x13 : Vec F S56x256 .bf16) (x14 : Vec F S56x256 .bf16) (x15 : Vec F S11x2x32x256 .bf16) (x16 : Vec F S11x2x32x256 .bf16) (x17 : Vec F S256x7168 .i8) (x18 : Vec F S160x7168 .f32) (xs0 : Vec F S32x7168 .bf16) (xs1 : Vec F S24x352 .bf16) (xs2 : Vec F S24x352 .bf16) (xs3 : Vec F S24x7168 .f32) (xs4 : Vec F S24x352 .f32) (d20 : Vec F S24x20480 .bf16) (d21 : Vec F S24x64 .bf16) :
    (bodyRun_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.2.2.1 = [⟨(Rect.unit (s := S24x352) ![0, 0] S24x352.size inb_S24x352_S24x352_0_0), (tC arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4)⟩] := rfl

end Lists

section Values

theorem hloC_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (b : Fin 24) (f : Fin 256) :
    (hloC arg8 harg8 arg10 harg10 arg12 harg12 arg14 harg14 arg16 harg16 arg24 harg24 arg25 harg25 arg26 harg26 x7 x9 x11 x13 x15 xs0 xs1 xs2) (ix2 b f) = A.h b (clo j f) :=
  hV_val A (clo j) _ _ _ arg8 harg8 x7 arg10 harg10 x9 arg12 harg12 x11 arg14 harg14 x13 arg16 harg16 x15
    (fun b k => (whole2_at arg24 harg24 xs0 _ _ _).trans (hx b k))
    (fun b k => (whole2_at arg25 harg25 xs1 _ _ _).trans (hm0 b k))
    (fun b k => (whole2_at arg26 harg26 xs2 _ _ _).trans (hm1 b k))
    B.cgl B.cul B.sgl B.sul B.bll b f

theorem hhiC_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (b : Fin 24) (f : Fin 256) :
    (hhiC arg9 harg9 arg11 harg11 arg13 harg13 arg15 harg15 arg17 harg17 arg24 harg24 arg25 harg25 arg26 harg26 x8 x10 x12 x14 x16 xs0 xs1 xs2) (ix2 b f) = A.h b (chi j f) :=
  hV_val A (chi j) _ _ _ arg9 harg9 x8 arg11 harg11 x10 arg13 harg13 x12 arg15 harg15 x14 arg17 harg17 x16
    (fun b k => (whole2_at arg24 harg24 xs0 _ _ _).trans (hx b k))
    (fun b k => (whole2_at arg25 harg25 xs1 _ _ _).trans (hm0 b k))
    (fun b k => (whole2_at arg26 harg26 xs2 _ _ _).trans (hm1 b k))
    B.cgh B.cuh B.sgh B.suh B.blh b f

theorem yC_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) : IsY A (j.val + 1) (yC i arg8 harg8 arg9 harg9 arg10 harg10 arg11 harg11 arg12 harg12 arg13 harg13 arg14 harg14 arg15 harg15 arg16 harg16 arg17 harg17 arg18 harg18 arg19 harg19 arg24 harg24 arg25 harg25 arg26 harg26 arg27 harg27 x7 x8 x9 x10 x11 x12 x13 x14 x15 x16 x17 x18 xs0 xs1 xs2 xs3) :=
  yV_val A i j hi _ _ _ arg18 harg18 x17 arg19 harg19 x18 (hloC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) B.dc B.ds
    (fun b k => (whole2_at arg27 harg27 xs3 _ _ _).trans (hY b k))

theorem tC_val (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32)
    (A : Spec.Args) (j : Fin 40) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) : IsT A (j.val + 1) (tC arg6 harg6 arg7 harg7 arg8 harg8 arg9 harg9 arg10 harg10 arg11 harg11 arg12 harg12 arg13 harg13 arg14 harg14 arg15 harg15 arg16 harg16 arg17 harg17 arg24 harg24 arg25 harg25 arg26 harg26 arg28 harg28 x5 x6 x7 x8 x9 x10 x11 x12 x13 x14 x15 x16 xs0 xs1 xs2 xs4) :=
  tV_val A j _ _ _ arg6 harg6 x5 arg7 harg7 x6 (hloC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) B.adl B.adh
    (fun b k => (whole2_at arg28 harg28 xs4 _ _ _).trans (hT b k))

/-- The last step completes `h` and the two running sums, and from them `out` and `t`. -/
theorem stepC  (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole) (hc0 : ¬cond0_0 i) (hc1 : cond0_1 i)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32) (xs0 : Vec Ideal S32x7168 .bf16) (xs1 : Vec Ideal S24x352 .bf16) (xs2 : Vec Ideal S24x352 .bf16) (xs3 : Vec Ideal S24x7168 .f32) (xs4 : Vec Ideal S24x352 .f32) (d20 : Vec Ideal S24x20480 .bf16) (d21 : Vec Ideal S24x64 .bf16)
    (A : Spec.Args) (j : Fin 40) (hj : j.val = 39) (hi : (i 0).val = j.val) (B : Blk A j x0 x1 x2 x3 x4 x5 x6 x7 x8 x9 x10 x11 x12 x13 x14 x15 x16 x17 x18) (hx : IsXI A xs0) (hm0 : IsM A 0 xs1) (hm1 : IsM A 1 xs2) (hY : IsY A j.val xs3) (hT : IsT A j.val xs4) (hH : IsH A j.val d20) :
    IsH A (j.val + 1) (arg21.view.read (Elt Ideal) (arg21.view.writes (Elt Ideal) (harg21.unread d20) (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.1))
    ∧ (∀ f, IsY A (j.val + 1) (arg27.view.read (Elt Ideal) (arg27.view.writes (Elt Ideal) f (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.2.1)))
    ∧ (∀ f, IsT A (j.val + 1) (arg28.view.read (Elt Ideal) (arg28.view.writes (Elt Ideal) f (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.2.2.1)))
    ∧ (∀ f, IsOut A (arg20.view.read (Elt Ideal) (arg20.view.writes (Elt Ideal) f (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).1)))
    ∧ (∀ f, IsTt A (arg23.view.read (Elt Ideal) (arg23.view.writes (Elt Ideal) f (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 xs0 xs1 xs2 xs3 xs4 d20 d21).2.2.1))) :=
  ⟨by rw [L20_C]; exact isH_step A i j hi _ _ _ _ _ _ (hloC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (hhiC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT) (by rw [harg21.read_unread]; exact hH),
   fun f => by rw [LS3_C, View.read_writes_full]; exact yC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT,
   fun f => by rw [LS4_C, View.read_writes_full]; exact tC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT,
   fun f => by rw [L19_C, View.read_writes_full]; exact outV_val A arg1 harg1 x0 arg2 harg2 x1 B.idx B.sc _ (by rw [View.readCov_full]; have h := tC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT; rwa [hj] at h) _ (by rw [View.readCov_full]; have h := yC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT; rwa [hj] at h) arg5 harg5 x4 B.bd,
   fun f => by rw [L22_C, View.read_writes_full]; exact ttV_val A arg1 harg1 x0 arg2 harg2 x1 B.idx B.sc _ (by rw [View.readCov_full]; have h := tC_val i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 xs0 xs1 xs2 xs3 xs4 A j hi B hx hm0 hm1 hY hT; rwa [hj] at h)⟩

end Values

end Cert.KernelIdeal.Body
-- ==== Proof.ValC.lean ====
module

public import proofs.«01_k».proof.Proof.ValTriple
public import proofs.«01_k».proof.Proof.StepC

/-! The triple `BodyVal` at the last step: its tile, then the results `t` and `out`. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 3200000 in
/-- The last step. -/
theorem val_C (A : Spec.Args) (j : Fin 40) (c : Dev nD) (i : grid0.Coords) (arg1 : Memref sig .tc .smem S24 .i32) (harg1 : arg1.IsWhole) (arg2 : Memref sig .tc .smem S11 .f32) (harg2 : arg2.IsWhole) (arg3 : Memref sig .tc .vmem S24x7168 .bf16) (harg3 : arg3.IsWhole) (arg4 : Memref sig .tc .vmem S11x64x7168 .bf16) (harg4 : arg4.IsWhole) (arg5 : Memref sig .tc .vmem S11x32x7168 .bf16) (harg5 : arg5.IsWhole) (arg6 : Memref sig .tc .vmem S11x32x256 .bf16) (harg6 : arg6.IsWhole) (arg7 : Memref sig .tc .vmem S11x32x256 .bf16) (harg7 : arg7.IsWhole) (arg8 : Memref sig .tc .vmem S3584x256 .i8) (harg8 : arg8.IsWhole) (arg9 : Memref sig .tc .vmem S3584x256 .i8) (harg9 : arg9.IsWhole) (arg10 : Memref sig .tc .vmem S3584x256 .i8) (harg10 : arg10.IsWhole) (arg11 : Memref sig .tc .vmem S3584x256 .i8) (harg11 : arg11.IsWhole) (arg12 : Memref sig .tc .vmem S56x256 .bf16) (harg12 : arg12.IsWhole) (arg13 : Memref sig .tc .vmem S56x256 .bf16) (harg13 : arg13.IsWhole) (arg14 : Memref sig .tc .vmem S56x256 .bf16) (harg14 : arg14.IsWhole) (arg15 : Memref sig .tc .vmem S56x256 .bf16) (harg15 : arg15.IsWhole) (arg16 : Memref sig .tc .vmem S11x2x32x256 .bf16) (harg16 : arg16.IsWhole) (arg17 : Memref sig .tc .vmem S11x2x32x256 .bf16) (harg17 : arg17.IsWhole) (arg18 : Memref sig .tc .vmem S256x7168 .i8) (harg18 : arg18.IsWhole) (arg19 : Memref sig .tc .vmem S160x7168 .f32) (harg19 : arg19.IsWhole) (arg20 : Memref sig .tc .vmem S24x7168 .bf16) (harg20 : arg20.IsWhole) (arg21 : Memref sig .tc .vmem S24x20480 .bf16) (harg21 : arg21.IsWhole) (arg22 : Memref sig .tc .vmem S24x64 .bf16) (harg22 : arg22.IsWhole) (arg23 : Memref sig .tc .vmem S24x32 .bf16) (harg23 : arg23.IsWhole) (arg24 : Memref sig .tc .vmem S32x7168 .bf16) (harg24 : arg24.IsWhole) (arg25 : Memref sig .tc .vmem S24x352 .bf16) (harg25 : arg25.IsWhole) (arg26 : Memref sig .tc .vmem S24x352 .bf16) (harg26 : arg26.IsWhole) (arg27 : Memref sig .tc .vmem S24x7168 .f32) (harg27 : arg27.IsWhole) (arg28 : Memref sig .tc .vmem S24x352 .f32) (harg28 : arg28.IsWhole)
    (x0 : Vec Ideal S24 .i32) (x1 : Vec Ideal S11 .f32) (x2 : Vec Ideal S24x7168 .bf16) (x3 : Vec Ideal S11x64x7168 .bf16) (x4 : Vec Ideal S11x32x7168 .bf16) (x5 : Vec Ideal S11x32x256 .bf16) (x6 : Vec Ideal S11x32x256 .bf16) (x7 : Vec Ideal S3584x256 .i8) (x8 : Vec Ideal S3584x256 .i8) (x9 : Vec Ideal S3584x256 .i8) (x10 : Vec Ideal S3584x256 .i8) (x11 : Vec Ideal S56x256 .bf16) (x12 : Vec Ideal S56x256 .bf16) (x13 : Vec Ideal S56x256 .bf16) (x14 : Vec Ideal S56x256 .bf16) (x15 : Vec Ideal S11x2x32x256 .bf16) (x16 : Vec Ideal S11x2x32x256 .bf16) (x17 : Vec Ideal S256x7168 .i8) (x18 : Vec Ideal S160x7168 .f32)
    (hc0 : ¬cond0_0 i) (hc1 : cond0_1 i) (hj : j.val = 39) (hi : (i 0).val = j.val) (B : Blk A j x0 x1 x2 x3 x4 x5 x6 x7 x8 x9 x10 x11 x12 x13 x14 x15 x16 x17 x18) :
    BodyVal A j.val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 := by
  intro d20 d21 hH hS E K
  unfold SCv
  iintro ⟨H0, H1, H2, H3, H4, H5, H6, H7, H8, H9, H10, H11, H12, H13, H14, H15, H16, H17, H18, H19, H20, H21, H22, ⟨%X0, %X1, %X2, %X3, %X4, %hX, HS0, HS1, HS2, HS3, HS4⟩, Hk⟩
  obtain ⟨hXI, hM0, hM1, hY, hT⟩ := hX (by omega)
  obtain ⟨eH, eY, eT, eO, eTt⟩ := stepC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21 A j hj hi B hXI hM0 hM1 hY hT hH
  iapply ((bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, ⟨%f19, H19⟩, H20, H21, ⟨%f22, H22⟩, HS0, HS1, HS2, ⟨%g3, HS3⟩, ⟨%g4, HS4⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (sat_of c arg20 _ _ (fun _ => eO f19)); iexact H19
  isplitl [H20]; · iapply (sat_of c arg21 _ _ eH); iexact H20
  isplitl [H21]; · iapply (sat_owns c arg22 _ d21 (hS (by omega))); iexact H21
  isplitl [H22]; · iapply (sat_of c arg23 _ _ (fun _ => eTt f22)); iexact H22
  iexists X0
  iexists X1
  iexists X2
  iexists (arg27.view.read (Elt Ideal) (arg27.view.writes (Elt Ideal) g3 (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.2.2.1))
  iexists (arg28.view.read (Elt Ideal) (arg28.view.writes (Elt Ideal) g4 (bodyRun_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 X0 X1 X2 X3 X4 d20 d21).2.2.2.2.1))
  isplitr; · ipureintro; exact fun _ => ⟨hXI, hM0, hM1, eY g3, eT g4⟩
  isplitl [HS0]; · iexact HS0
  isplitl [HS1]; · iexact HS1
  isplitl [HS2]; · iexact HS2
  isplitl [HS3]; · iapply (owns_intro (c : Thread nD τ) arg27 fullShare _); iexact HS3
  iapply (owns_intro (c : Thread nD τ) arg28 fullShare _); iexact HS4

end Cert.KernelIdeal.Body
-- ==== Proof.KValue.lean ====
module

public import proofs.«01_k».proof.Proof.Setup
public import proofs.«01_k».proof.Proof.StepCore
public import Idealize.ShloMosaic.Lib.Claim
public import Idealize.ShloMosaic.Lib.Pipeline.ValueKit.Geometry
public import Idealize.ShloMosaic.Lib.Pipeline.ValueKit.Point

/-! What the windows hand to a step, read at the arguments. -/

@[expose] public section

set_option maxRecDepth 16384

noncomputable section

namespace Cert.KernelIdeal.Body

open Cert Cert.KernelIdeal Cert.KernelIdeal.Gen
open Idealize.ShloMosaic Idealize.ShloMosaic.Pointwise Idealize.ShloMosaic.TcCoe

variable (m : (ℓ : Loc nD τ sig) → Buf (Elt Ideal) ℓ)

/-- The arguments, as the launch finds them. -/
def kargs (c : Dev nD) : Spec.Args where
  x b d := m ((c.tc : Thread nD τ).loc main_arg0) (ix3 b 0 d)
  idx b := m ((c.tc : Thread nD τ).loc main_arg1) (ix1 b)
  gc i f := m ((c.tc : Thread nD τ).loc main_arg2) (ix2 i f)
  gs g f := m ((c.tc : Thread nD τ).loc main_arg3) (ix2 g f)
  dc i d := m ((c.tc : Thread nD τ).loc main_arg4) (ix2 i d)
  ds g d := m ((c.tc : Thread nD τ).loc main_arg5) (ix2 g d)
  ag n d r := m ((c.tc : Thread nD τ).loc main_arg6) (ix3 n d r)
  bg n t r f := m ((c.tc : Thread nD τ).loc main_arg7) (ix4 n t r f)
  ad n f r := m ((c.tc : Thread nD τ).loc main_arg8) (ix3 n f r)
  bd n r d := m ((c.tc : Thread nD τ).loc main_arg9) (ix3 n r d)
  sc n := m ((c.tc : Thread nD τ).loc main_arg10) (ix1 n)

/-- The step a grid point runs. -/
def stp (t : Fin cfg0.N) : Fin 40 := ⟨t.val % 40, Nat.mod_lt _ (by decide)⟩

theorem idx_at : ∀ t : Fin grid0.N, (win0_5.index t = ![0, 0, t.val % 40]) ∧ (win0_6.index t = ![0, 0, 40 + t.val % 40])
    ∧ (win0_7.index t = ![0, t.val % 40]) ∧ (win0_8.index t = ![0, 40 + t.val % 40])
    ∧ (win0_9.index t = ![0, 80 + t.val % 40]) ∧ (win0_10.index t = ![0, 120 + t.val % 40])
    ∧ (win0_11.index t = ![0, t.val % 40]) ∧ (win0_12.index t = ![0, 40 + t.val % 40])
    ∧ (win0_13.index t = ![0, 80 + t.val % 40]) ∧ (win0_14.index t = ![0, 120 + t.val % 40])
    ∧ (win0_15.index t = ![0, 0, 0, t.val % 40]) ∧ (win0_16.index t = ![0, 0, 0, 40 + t.val % 40])
    ∧ (win0_17.index t = ![t.val % 40, 0]) := by decide +kernel
theorem idx_w : ∀ t : Fin grid0.N, (win0_0.index t = ![0]) ∧ (win0_1.index t = ![0]) ∧ (win0_2.index t = ![0, 0]) ∧ (win0_3.index t = ![0, 0, 0])
    ∧ (win0_4.index t = ![0, 0, 0]) ∧ (win0_18.index t = ![0, 0]) := by decide +kernel

set_option maxHeartbeats 2000000 in
/-- At every grid point the windows' blocks are the parts of the arguments that the point's step uses. -/
theorem blk_at (c : Dev nD) (t : Fin cfg0.N) : Blk (kargs m c) (stp t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) where
  idx b := by
    simp only [kargs, gcol, clo, chi, stp]
    blk_ext! [iblk, V, idx_w t]
  sc n := by
    simp only [kargs, gcol, clo, chi, stp]
    blk_ext! [iblk, V, idx_w t]
  x b d := by
    simp only [kargs, gcol, clo, chi, stp]
    blk_ext! [iblk, V, idx_w t]
  ag n c d := by
    simp only [kargs, gcol, clo, chi, stp]
    blk_ext! [iblk, V, idx_w t]
  bd n r d := by
    simp only [kargs, gcol, clo, chi, stp]
    blk_ext! [iblk, V, idx_w t]
  adl n r f := by
    simp only [kargs, gcol, clo, chi, stp]
    blk_ext! [iblk, V, idx_at t]
  adh n r f := by
    simp only [kargs, gcol, clo, chi, stp]
    blk_ext! [iblk, V, idx_at t]
  cgl i f := by
    simp only [kargs, gcol, clo, chi, stp]
    blk_ext! [iblk, V, idx_at t]
  cgh i f := by
    simp only [kargs, gcol, clo, chi, stp]
    blk_ext! [iblk, V, idx_at t]
  cul i f := by
    simp only [kargs, gcol, clo, chi, stp]
    blk_ext! [iblk, V, idx_at t]
  cuh i f := by
    simp only [kargs, gcol, clo, chi, stp]
    blk_ext! [iblk, V, idx_at t]
  sgl i f := by
    simp only [kargs, gcol, clo, chi, stp]
    blk_ext! [iblk, V, idx_at t]
  sgh i f := by
    simp only [kargs, gcol, clo, chi, stp]
    blk_ext! [iblk, V, idx_at t]
  sul i f := by
    simp only [kargs, gcol, clo, chi, stp]
    blk_ext! [iblk, V, idx_at t]
  suh i f := by
    simp only [kargs, gcol, clo, chi, stp]
    blk_ext! [iblk, V, idx_at t]
  bll n t' r f := by
    simp only [kargs, gcol, clo, chi, stp]
    blk_ext! [iblk, V, idx_at t]
  blh n t' r f := by
    simp only [kargs, gcol, clo, chi, stp]
    blk_ext! [iblk, V, idx_at t]
  dc r d := by
    simp only [kargs, gcol, clo, chi, stp]
    blk_ext! [iblk, V, idx_at t]
  ds g d := by
    simp only [kargs, gcol, clo, chi, stp]
    blk_ext! [iblk, V, idx_w t]

end Cert.KernelIdeal.Body
-- ==== Proof.KIBody.lean ====
module

public import proofs.«01_k».proof.Proof.ValA
public import proofs.«01_k».proof.Proof.ValB
public import proofs.«01_k».proof.Proof.ValC
public import proofs.«01_k».proof.Proof.KValue
public import Idealize.ShloMosaic.Lib.Claim
public import Idealize.ShloMosaic.Lib.Pipeline.DatRel
public import Idealize.ShloMosaic.Lib.Pipeline.ArrRel

/-! The body at every point of the grid, and the run of the launch, with what the scratch and the four results hold. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The proof data: the inputs at their blocks, the four results as far as they are filled -/

/-- The results (windows 19 to 22): what they hold is stated by `Rl`. -/
def marks0 : Fin 23 → Bool := fun w => w.val == 19 || w.val == 20 || w.val == 21 || w.val == 22

/-- The arrays as the region finds them; after the body each input's buffer at its block; between the steps the scratch as `SCv`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ t := iprop(SCv (kargs m c) c t.val scM0_0 scM0_1 scM0_2 scM0_3 scM0_4 ∗ (∃ r, prngReg c r))
  q w := Pipeline.shareOf spec0 w
  owed _ := 0

/-- What the body leaves in the results at point `t`: `h` filled up to and with this step's tile, `s` complete, and at the last point
    `out` and `t` complete. -/
def Rl (c : Dev nD) : (w : Fin cfg0.W) → Fin cfg0.N → ((cfg0.win w).block.Idx → Elt Ideal (cfg0.win w).elt) → Prop := fun w t =>
  match w with
  | ⟨19, _⟩ => fun X => (stp t).val = 39 → IsOut (kargs m c) X
  | ⟨20, _⟩ => fun X => IsH (kargs m c) ((stp t).val + 1) X
  | ⟨21, _⟩ => fun X => IsS (kargs m c) X
  | ⟨22, _⟩ => fun X => (stp t).val = 39 → IsTt (kargs m c) X
  | _ => fun _ => True

theorem A_eq (c : Dev nD) (w : Fin cfg0.W) : (dats m 0 c).A w = V m c (Pipeline.arrRef spec0 w) := by
  dsimp only [dats]

/-- The exact data with the results held to `Rl`. -/
abbrev rdat (c : Dev nD) : RDat τ (Elt Ideal) Unit ℕ (UR sig nD τ) ℕ cfg0 c := (dats m 0 c).toRRel marks0 (Rl m c)

/-! What the body leaves in each input's buffer, and what it finds there: the window's block. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
theorem leaves0_12 (c : Dev nD) (t : Fin cfg0.N) :
    (dats m 0 c).leavesExact 12 t = owns (c : Thread nD τ) (ms0_12 t) fullShare (iblk m c 12 t) := by
  unfold Dat.leavesExact; rw [liveAt0_12 t, after0_12]
theorem leaves0_13 (c : Dev nD) (t : Fin cfg0.N) :
    (dats m 0 c).leavesExact 13 t = owns (c : Thread nD τ) (ms0_13 t) fullShare (iblk m c 13 t) := by
  unfold Dat.leavesExact; rw [liveAt0_13 t, after0_13]
theorem leaves0_14 (c : Dev nD) (t : Fin cfg0.N) :
    (dats m 0 c).leavesExact 14 t = owns (c : Thread nD τ) (ms0_14 t) fullShare (iblk m c 14 t) := by
  unfold Dat.leavesExact; rw [liveAt0_14 t, after0_14]
theorem leaves0_15 (c : Dev nD) (t : Fin cfg0.N) :
    (dats m 0 c).leavesExact 15 t = owns (c : Thread nD τ) (ms0_15 t) fullShare (iblk m c 15 t) := by
  unfold Dat.leavesExact; rw [liveAt0_15 t, after0_15]
theorem leaves0_16 (c : Dev nD) (t : Fin cfg0.N) :
    (dats m 0 c).leavesExact 16 t = owns (c : Thread nD τ) (ms0_16 t) fullShare (iblk m c 16 t) := by
  unfold Dat.leavesExact; rw [liveAt0_16 t, after0_16]
theorem leaves0_17 (c : Dev nD) (t : Fin cfg0.N) :
    (dats m 0 c).leavesExact 17 t = owns (c : Thread nD τ) (ms0_17 t) fullShare (iblk m c 17 t) := by
  unfold Dat.leavesExact; rw [liveAt0_17 t, after0_17]
theorem leaves0_18 (c : Dev nD) (t : Fin cfg0.N) :
    (dats m 0 c).leavesExact 18 t = owns (c : Thread nD τ) (ms0_18 t) fullShare (iblk m c 18 t) := by
  unfold Dat.leavesExact; rw [liveAt0_18 t, after0_18]

/-! ## What the body finds in the results -/

theorem fetch0_20 : ∀ t : Fin cfg0.N, (cfg0.win 20).fetch t = false :=
  (by decide +kernel : ∀ t : Fin grid0.N, win0_20.fetch t = false)
theorem fetch0_21 : ∀ t : Fin cfg0.N, (cfg0.win 21).fetch t = false :=
  (by decide +kernel : ∀ t : Fin grid0.N, win0_21.fetch t = false)

/-- Before step `t` the first `t` tiles of `h` are filled. -/
theorem finds0_20 (c : Dev nD) (t : Fin cfg0.N) (Y : Vec Ideal S24x20480 .bf16) (h : (rdat m c).Finds 20 t Y) :
    IsH (kargs m c) (stp t).val Y := by
  have hN : t.val < 40 := lt_of_lt_of_eq t.isLt (show cfg0.N = 40 from N_0)
  by_cases h0 : t.val = 0
  · have e : (stp t).val = 0 := by show t.val % 40 = 0; omega
    rw [e]; exact isH_zero _ _
  · rcases (RDat.finds_of_pos (rd := rdat m c) (fetch0_20 t) h0 Y).mp h with hf | hl
    · exact absurd ((flush0_20 _).mp hf) (by show ¬ (t.val - 1) % 40 = 39; omega)
    · have r := (dats m 0 c).toRRel_leaves (w := 20) (fgt := marks0) (Rl := Rl m c) rfl hl
      have e : (stp t).val = (t.val - 1) % 40 + 1 := by show t.val % 40 = _; omega
      rw [e]; exact r

/-- After the first step `s` is complete. -/
theorem finds0_21 (c : Dev nD) (t : Fin cfg0.N) (Y : Vec Ideal S24x64 .bf16) (h : (rdat m c).Finds 21 t Y) :
    (stp t).val ≠ 0 → IsS (kargs m c) Y := by
  have hN : t.val < 40 := lt_of_lt_of_eq t.isLt (show cfg0.N = 40 from N_0)
  intro hs
  have h0 : t.val ≠ 0 := fun e => hs (by show t.val % 40 = 0; omega)
  rcases (RDat.finds_of_pos (rd := rdat m c) (fetch0_21 t) h0 Y).mp h with hf | hl
  · exact absurd ((flush0_21 _).mp hf) (by show ¬ (t.val - 1) % 40 = 39; omega)
  · exact (dats m 0 c).toRRel_leaves (w := 21) (fgt := marks0) (Rl := Rl m c) rfl hl

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ Y, ⌜(rdat m c).Finds 19 t Y⌝ ∗ owns (c : Thread nD τ) (ms0_19 t) fullShare Y)
    ∗ (∃ Y, ⌜(rdat m c).Finds 20 t Y⌝ ∗ owns (c : Thread nD τ) (ms0_20 t) fullShare Y)
    ∗ (∃ Y, ⌜(rdat m c).Finds 21 t Y⌝ ∗ owns (c : Thread nD τ) (ms0_21 t) fullShare Y)
    ∗ (∃ Y, ⌜(rdat m c).Finds 22 t Y⌝ ∗ owns (c : Thread nD τ) (ms0_22 t) fullShare Y))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ Sat c (ms0_19 t) (fun X => (stp t).val = 39 → IsOut (kargs m c) X)
    ∗ Sat c (ms0_20 t) (IsH (kargs m c) ((stp t).val + 1))
    ∗ Sat c (ms0_21 t) (IsS (kargs m c))
    ∗ Sat c (ms0_22 t) (fun X => (stp t).val = 39 → IsTt (kargs m c) X))

/-- The body's triple at any point: one of the three cases. -/
theorem triple_at (c : Dev nD) (t : Fin cfg0.N) :
    BodyVal (kargs m c) (stp t).val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  have hN : t.val < 40 := lt_of_lt_of_eq t.isLt (show cfg0.N = 40 from N_0)
  have hi : (grid0.coords t 0).val = (stp t).val := by
    have e0 : (grid0.coords t 0).val = t.val / 1 % 40 := Pipeline.Grid.coords_val t 0 (by decide) rfl
    exact e0.trans (by rw [Nat.div_one]; rfl)
  by_cases h0 : t.val % 40 = 0
  · exact val_A (kargs m c) (stp t) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ((hcond0_0 t).mpr h0) (fun h => absurd ((hcond0_1 t).mp h) (by omega)) h0 hi (blk_at m c t)
  · by_cases h1 : t.val % 40 = 39
    · exact val_C (kargs m c) (stp t) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        (fun h => h0 ((hcond0_0 t).mp h)) ((hcond0_1 t).mpr h1) h1 hi (blk_at m c t)
    · exact val_B (kargs m c) (stp t) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        (fun h => h0 ((hcond0_0 t).mp h)) (fun h => h1 ((hcond0_1 t).mp h)) h0 h1 hi (blk_at m c t)

set_option maxHeartbeats 3200000 in
/-- The body at any point, as the pipeline calls it. -/
theorem sound_body (c : Dev nD) (t : Fin cfg0.N) :
    bodyPre m c t ⊢ wp frame (wpE (defs₀ (F := Ideal)) Variants.none c none) Set.univ (bodyAt0 t) (fun _ => bodyPost m c t) := by
  have hN : t.val < 40 := lt_of_lt_of_eq t.isLt (show cfg0.N = 40 from N_0)
  have et : t.val = (stp t).val := (Nat.mod_eq_of_lt hN).symm
  have eP : (dats m 0 c).Φ t.castSucc = iprop(SCv (kargs m c) c (stp t).val scM0_0 scM0_1 scM0_2 scM0_3 scM0_4 ∗ (∃ r, prngReg c r)) := by
    rw [← et]; rfl
  have eQ : (dats m 0 c).Φ t.succ = iprop(SCv (kargs m c) c ((stp t).val + 1) scM0_0 scM0_1 scM0_2 scM0_3 scM0_4 ∗ (∃ r, prngReg c r)) := by
    rw [← et]; rfl
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18]
  rw [show (dats m 0 c).owesAt () t.succ = (dats m 0 c).owesAt () t.castSucc from rfl, eP, eQ]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%Y19, %F19, H19⟩, ⟨%Y20, %F20, H20⟩, ⟨%Y21, %F21, H21⟩, ⟨%Y22, %F22, H22⟩⟩
  iapply (triple_at m c t Y20 Y21 (finds0_20 m c t Y20 F20) (finds0_21 m c t Y21 F21) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists Y19; iexact H19
  isplitl [H20]; · iexact H20
  isplitl [H21]; · iexact H21
  isplitl [H22]; · iexists Y22; iexact H22
  isplitl [HS]; · iexact HS
  iintro ⟨H0, H1, H2, H3, H4, H5, H6, H7, H8, H9, H10, H11, H12, H13, H14, H15, H16, H17, H18, H19, H20, H21, H22, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The pipeline's body obligation at every point. -/
theorem body_obligation (c : Dev nD) : BodyObligationRel (dats m 0 c) (defs₀ (F := Ideal)) Variants.none () Set.univ marks0 (Rl m c) := fun t => by
  rw [bigSep_W0, bigSep_W0, defs₀_row]
  exact triple_restated (sound_body m c t) rfl .rfl fun _ => .rfl

/-! ## The run -/

/-- Before the first step nothing is stated of the scratch. -/
theorem scratch_in (c : Dev nD) : Pipeline.ΦA spec0 c ⊢ (dats m 0 c).Φ 0 := by
  rw [show (dats m 0 c).Φ 0 = iprop(SCv (kargs m c) c 0 scM0_0 scM0_1 scM0_2 scM0_3 scM0_4 ∗ (∃ r, prngReg c r)) from rfl, PhiA0_eq]
  unfold SCv
  iintro ⟨⟨⟨%X0, H0⟩, ⟨%X1, H1⟩, ⟨%X2, H2⟩, ⟨%X3, H3⟩, ⟨%X4, H4⟩⟩, Hg⟩
  isplitr [Hg]
  · iexists X0; iexists X1; iexists X2; iexists X3; iexists X4
    isplitr
    · ipureintro; exact fun h => absurd rfl h
    isplitl [H0]; · iexact H0
    isplitl [H1]; · iexact H1
    isplitl [H2]; · iexact H2
    isplitl [H3]; · iexact H3
    iexact H4
  · iexact Hg

/-- After the last step what the scratch holds is dropped. -/
theorem scratch_out (c : Dev nD) : (dats m 0 c).Φ (Fin.last cfg0.N) ⊢ Pipeline.ΦA spec0 c := by
  rw [show (dats m 0 c).Φ (Fin.last cfg0.N) = iprop(SCv (kargs m c) c cfg0.N scM0_0 scM0_1 scM0_2 scM0_3 scM0_4 ∗ (∃ r, prngReg c r)) from rfl, PhiA0_eq]
  unfold SCv
  iintro ⟨⟨%X0, %X1, %X2, %X3, %X4, %hX, H0, H1, H2, H3, H4⟩, Hg⟩
  isplitr [Hg]
  · isplitl [H0]; · iexists X0; iexact H0
    isplitl [H1]; · iexists X1; iexact H1
    isplitl [H2]; · iexists X2; iexact H2
    isplitl [H3]; · iexists X3; iexact H3
    iexists X4; iexact H4
  · iexact Hg

set_option backward.isDefEq.respectTransparency.types false in
/-- The launch: every array as the proof data has it, every other buffer as the region found it, and every counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := scratch_in m) (hout := scratch_out m)

end Cert.KernelIdeal.Body

end
-- ==== Proof.KIResult.lean ====
module

public import proofs.«01_k».proof.Proof.KIBody

/-! The four result arrays after the run: the functions of `Spec` at the arguments. -/

@[expose] public section

set_option maxRecDepth 16384

noncomputable section

namespace Cert.KernelIdeal.Body

open Cert Cert.KernelIdeal Cert.KernelIdeal.Gen
open Idealize.ShloMosaic Idealize.ShloMosaic.TcCoe Idealize.ShloMosaic.Pointwise Idealize.SL.Sem
open Idealize.ShloMosaic.Pipeline (Dat RDat Cfg Window)

variable (m : (ℓ : Loc nD τ sig) → Buf (Elt Ideal) ℓ) (ρ : Dev nD → PrngReg)

/-- The four results as arrays. -/
def resOut (A : Spec.Args) : Vec Ideal S24x7168 .bf16 := fun i => A.out (i 0) (i 1)
def resH (A : Spec.Args) : Vec Ideal S24x20480 .bf16 := fun i => A.h (i 0) (i 1)
def resS (A : Spec.Args) : Vec Ideal S24x64 .bf16 := fun i => A.s (i 0) (i 1)
def resT (A : Spec.Args) : Vec Ideal S24x32 .bf16 := fun i => A.t (i 0) (i 1)

/-! Each result is written back once, whole, at the last point. -/

theorem whole0_19 : ∀ t : Fin cfg0.N, t.val = 39 → (cfg0.win 19).WholeAt t :=
  (by decide +kernel : ∀ t : Fin grid0.N, t.val = 39 → win0_19.WholeAt t)
theorem whole0_20 : ∀ t : Fin cfg0.N, t.val = 39 → (cfg0.win 20).WholeAt t :=
  (by decide +kernel : ∀ t : Fin grid0.N, t.val = 39 → win0_20.WholeAt t)
theorem whole0_21 : ∀ t : Fin cfg0.N, t.val = 39 → (cfg0.win 21).WholeAt t :=
  (by decide +kernel : ∀ t : Fin grid0.N, t.val = 39 → win0_21.WholeAt t)
theorem whole0_22 : ∀ t : Fin cfg0.N, t.val = 39 → (cfg0.win 22).WholeAt t :=
  (by decide +kernel : ∀ t : Fin grid0.N, t.val = 39 → win0_22.WholeAt t)

/-- The last point. -/
theorem exists_last : ∃ t : Fin cfg0.N, t.val = 39 := ⟨⟨39, by rw [show cfg0.N = 40 from N_0]; decide⟩, rfl⟩

theorem array0_19 (c : Dev nD) (G : Vec Ideal S24x7168 .bf16) (hG : (rdat m c).ArrAt 19 cfg0.N G) : G = resOut (kargs m c) := by
  obtain ⟨t, ht⟩ := exists_last
  obtain ⟨X, hL, e⟩ := RDat.ArrAt.emb_eq_of_wholeAt hG (whole0_19 t ht)
  have hX := (dats m 0 c).toRRel_leaves (w := 19) (fgt := marks0) (Rl := Rl m c) rfl hL
  funext i
  have ei := e i
  refine Eq.trans (show G i = X (ix2 (i 0) (i 1)) from Eq.trans ei (congrArg X ?_)) ((hX (by show t.val % 40 = 39; omega)) _ _)
  exact eq_ix2 (n0 := 24) (n1 := 7168) i

theorem array0_20 (c : Dev nD) (G : Vec Ideal S24x20480 .bf16) (hG : (rdat m c).ArrAt 20 cfg0.N G) : G = resH (kargs m c) := by
  obtain ⟨t, ht⟩ := exists_last
  obtain ⟨X, hL, e⟩ := RDat.ArrAt.emb_eq_of_wholeAt hG (whole0_20 t ht)
  have hX := (dats m 0 c).toRRel_leaves (w := 20) (fgt := marks0) (Rl := Rl m c) rfl hL
  funext i
  have ei := e i
  refine Eq.trans (show G i = X (ix2 (i 0) (i 1)) from Eq.trans ei (congrArg X ?_)) (hX _ _ (by have h1 := (i 1).isLt; show (i 1).val % 10240 / 256 < t.val % 40 + 1; omega))
  exact eq_ix2 (n0 := 24) (n1 := 20480) i

theorem array0_21 (c : Dev nD) (G : Vec Ideal S24x64 .bf16) (hG : (rdat m c).ArrAt 21 cfg0.N G) : G = resS (kargs m c) := by
  obtain ⟨t, ht⟩ := exists_last
  obtain ⟨X, hL, e⟩ := RDat.ArrAt.emb_eq_of_wholeAt hG (whole0_21 t ht)
  have hX := (dats m 0 c).toRRel_leaves (w := 21) (fgt := marks0) (Rl := Rl m c) rfl hL
  funext i
  have ei := e i
  refine Eq.trans (show G i = X (ix2 (i 0) (i 1)) from Eq.trans ei (congrArg X ?_)) ((hX) _ _)
  exact eq_ix2 (n0 := 24) (n1 := 64) i

theorem array0_22 (c : Dev nD) (G : Vec Ideal S24x32 .bf16) (hG : (rdat m c).ArrAt 22 cfg0.N G) : G = resT (kargs m c) := by
  obtain ⟨t, ht⟩ := exists_last
  obtain ⟨X, hL, e⟩ := RDat.ArrAt.emb_eq_of_wholeAt hG (whole0_22 t ht)
  have hX := (dats m 0 c).toRRel_leaves (w := 22) (fgt := marks0) (Rl := Rl m c) rfl hL
  funext i
  have ei := e i
  refine Eq.trans (show G i = X (ix2 (i 0) (i 1)) from Eq.trans ei (congrArg X ?_)) ((hX (by show t.val % 40 = 39; omega)) _ _)
  exact eq_ix2 (n0 := 24) (n1 := 32) i

/-- The run: the four results, and the arguments unchanged. -/
theorem run_values : θ_run defs (onTc (τ := τ) (main (F := Ideal))) ⟨m, fun _ => 0, ρ⟩ (fun r => ∀ c : Dev nD,
      r.2.mem ((c.tc : Thread nD τ).loc main_v4_0) = resOut (kargs m c)
      ∧ r.2.mem ((c.tc : Thread nD τ).loc main_v4_1) = resH (kargs m c)
      ∧ r.2.mem ((c.tc : Thread nD τ).loc main_v4_2) = resS (kargs m c)
      ∧ r.2.mem ((c.tc : Thread nD τ).loc main_v4_3) = resT (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨array0_19 m c _ ((h.2 c).1 19), array0_20 m c _ ((h.2 c).1 20), array0_21 m c _ ((h.2 c).1 21), array0_22 m c _ ((h.2 c).1 22), h.1 c⟩)
    (θ_run_and (frame_of m ρ (rdat m) (A_eq m) ((θ_run defs _ _).mono (fun _ h => h.1) (run_main_quiescent m ρ)))
      ((θ_run defs _ _).mono (fun _ h => h.1) (run_main_quiescent m ρ)))

/-- The frame: the arguments unchanged, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (rdat m) (A_eq m) ((θ_run defs _ _).mono (fun _ h => h.1) (run_main_quiescent m ρ)))
    ((θ_run defs _ _).mono (fun _ h => h.2) (run_main_quiescent m ρ))

end Cert.KernelIdeal.Body

end
-- ==== Proof.RefValue.lean ====
module

public import proofs.«01_k».proof.Proof.Gen.ReferenceIdeal.Read
public import proofs.«01_k».proof.Proof.Spec
public import Idealize.ShloMosaic.Lib.StableHlo.Predicate

/-! The reference's results are the functions of `Spec`. -/

@[expose] public section

set_option maxRecDepth 16384

noncomputable section

namespace Cert.ReferenceIdeal.RefValue

open Cert.ReferenceIdeal Cert.ReferenceIdeal.Gen Cert.ReferenceIdeal.Read Idealize.ShloMosaic Idealize.ShloMosaic.Pointwise
open scoped BigOperators

variable (x0 : (⟨S24x1x7168, .bf16⟩ : BufTy).Contents (Elt Ideal)) (x1 : (⟨S24, .i32⟩ : BufTy).Contents (Elt Ideal))
  (x2 : (⟨S3584x40960, .i8⟩ : BufTy).Contents (Elt Ideal)) (x3 : (⟨S56x40960, .bf16⟩ : BufTy).Contents (Elt Ideal))
  (x4 : (⟨S10240x7168, .i8⟩ : BufTy).Contents (Elt Ideal)) (x5 : (⟨S160x7168, .bf16⟩ : BufTy).Contents (Elt Ideal))
  (x6 : (⟨S11x7168x64, .bf16⟩ : BufTy).Contents (Elt Ideal)) (x7 : (⟨S11x2x32x20480, .bf16⟩ : BufTy).Contents (Elt Ideal))
  (x8 : (⟨S11x20480x32, .bf16⟩ : BufTy).Contents (Elt Ideal)) (x9 : (⟨S11x32x7168, .bf16⟩ : BufTy).Contents (Elt Ideal))
  (x10 : (⟨S11, .f32⟩ : BufTy).Contents (Elt Ideal))

/-- The reference's arguments by coordinates. -/
def args : Spec.Args where
  x b d := x0 (ix3 b 0 d)
  idx b := x1 (ix1 b)
  gc i f := x2 (ix2 i f)
  gs g f := x3 (ix2 g f)
  dc i d := x4 (ix2 i d)
  ds g d := x5 (ix2 g d)
  ag n d c := x6 (ix3 n d c)
  bg n t r f := x7 (ix4 n t r f)
  ad n f r := x8 (ix3 n f r)
  bd n r d := x9 (ix3 n r d)
  sc n := x10 (ix1 n)

local notation "𝔸" => args x0 x1 x2 x3 x4 x5 x6 x7 x8 x9 x10

/-- The low field of a byte as the reference decodes it. -/
theorem decode_lo (v : BitVec 8) :
    (Scalar.select (IntOp.cmpi .sge (IntOp.andi (v.setWidth 32) 15#32) 8#32) (IntOp.subi (IntOp.andi (v.setWidth 32) 15#32) 16#32)
      (IntOp.andi (v.setWidth 32) 15#32)).toInt = Spec.nib 0 v := by
  revert v; decide

/-- The high field of a byte as the reference decodes it. -/
theorem decode_hi (v : BitVec 8) :
    (Scalar.select (IntOp.cmpi .sge (IntOp.shrsi .host (v.setWidth 32) 4#32) 8#32)
      (IntOp.subi (IntOp.shrsi .host (v.setWidth 32) 4#32) 16#32) (IntOp.shrsi .host (v.setWidth 32) 4#32)).toInt = Spec.nib 1 v := by
  revert v; decide

theorem val_v32 (i : Fin 3584) (f : Fin 40960) : val_main_v32 (F := Ideal) x2 x3 (ix2 i f) = (𝔸).wg 0 i f := by
  pointwise [val_main_v32, val_main_v31, val_main_v30, val_main_v29, val_main_v28, val_main_v27, val_main_v25, val_main_v19,
    val_main_v16, val_main_v18, val_main_v12, val_main_v10, val_main_v11, val_main_v15, val_main_v17, val_main_c_1, val_main_c_3, val_main_c_4]
  unfold Spec.Args.wg
  congr 1
  · exact congrArg Spec.q (decode_lo _)
  · exact congrArg (fun k => x3 (ix2 k f)) (Fin.ext (by simp))

theorem val_v38 (i : Fin 3584) (f : Fin 40960) : val_main_v38 (F := Ideal) x2 x3 (ix2 i f) = (𝔸).wg 1 i f := by
  pointwise [val_main_v38, val_main_v37, val_main_v36, val_main_v35, val_main_v34, val_main_v33, val_main_v26, val_main_v24,
    val_main_v21, val_main_v23, val_main_v14, val_main_v10, val_main_v13, val_main_v20, val_main_v22, val_main_c_2, val_main_c_5, val_main_c_6]
  unfold Spec.Args.wg
  congr 1
  · exact congrArg Spec.q (decode_hi _)

theorem val_v94 (i : Fin 10240) (d : Fin 7168) : val_main_v94 (F := Ideal) x4 x5 (ix2 i d) = (𝔸).wd 0 i d := by
  pointwise [val_main_v94, val_main_v93, val_main_v92, val_main_v91, val_main_v90, val_main_v89, val_main_v87, val_main_v81,
    val_main_v78, val_main_v80, val_main_v74, val_main_v72, val_main_v73, val_main_v77, val_main_v79, val_main_c_8, val_main_c_10, val_main_c_11]
  unfold Spec.Args.wd
  congr 1
  · exact congrArg Spec.q (decode_lo _)
  · exact congrArg (fun k => x5 (ix2 k d)) (Fin.ext (by simp))

theorem val_v100 (i : Fin 10240) (d : Fin 7168) : val_main_v100 (F := Ideal) x4 x5 (ix2 i d) = (𝔸).wd 1 i d := by
  pointwise [val_main_v100, val_main_v99, val_main_v98, val_main_v97, val_main_v96, val_main_v95, val_main_v88, val_main_v86,
    val_main_v83, val_main_v85, val_main_v76, val_main_v72, val_main_v75, val_main_v82, val_main_v84, val_main_c_9, val_main_c_12, val_main_c_13]
  unfold Spec.Args.wd
  congr 1
  · exact congrArg Spec.q (decode_hi _)

theorem val_v43 (b : Fin 24) (f : Fin 40960) : val_main_v43 (F := Ideal) x0 x2 x3 (ix2 b f) = (𝔸).lin b f := by
  pointwise [val_main_v43, val_main_v40, val_main_v42, val_main_v39, val_main_v41, val_main_v0]
  simp only [val_v32 x0 x1 x2 x3 x4 x5 x6 x7 x8 x9 x10, val_v38 x0 x1 x2 x3 x4 x5 x6 x7 x8 x9 x10]
  rfl

theorem val_v1 (b : Fin 24) (n : Fin 11) :
    val_main_v1 (F := Ideal) x1 (ix2 b n) = if (𝔸).hit b n then (1 : EReal) else 0 := by
  pointwise [val_main_v1, val_main_call0_v4,val_main_call0_v3,val_main_call0_v2,val_main_call0_v1,val_main_call0_v0]
  by_cases h : (𝔸).hit b n
  · have h' : x1 (ix1 b) = BitVec.ofNat 32 n.val := h
    rw [if_pos h, h']
    show (((IntOp.cmpi .eq (BitVec.ofNat 32 n.val) (BitVec.ofNat 32 n.val)).toNat : ℝ) : EReal) = 1
    simp [IntOp.cmpi]
  · have h' : ¬ x1 (ix1 b) = BitVec.ofNat 32 n.val := h
    rw [if_neg h]
    show (((IntOp.cmpi .eq (x1 (ix1 b)) (BitVec.ofNat 32 n.val)).toNat : ℝ) : EReal) = 0
    simp [IntOp.cmpi, h']

/-- The scale that the reference looks up is the row's adapter's, whenever the row has one. -/
theorem val_v9 (b : Fin 24) (n : Fin 11) (h : (𝔸).hit b n) : val_main_v9 (F := Ideal) x1 x10 (ix1 b) = (𝔸).sc n := by
  have h' : x1 (ix1 b) = BitVec.ofNat 32 n.val := h
  have h8 : val_main_v8 (F := Ideal) x1 (ix2 b 0) = BitVec.ofNat 32 n.val := by
    pointwise [val_main_v8, val_main_v7, val_main_v6, val_main_v5, val_main_v4, val_main_v3, val_main_c, val_main_c_0]
    rw [h']; clear h h'; revert n; decide
  have hn : ∀ n : Fin 11, min (BitVec.ofNat 32 n.val).toInt.toNat 10 = n.val := by decide
  have key := StableHlo.Predicate.gather_take gather_S11_S24x1_S24_n_0_n_n_0_1_1 rfl rfl rfl rfl x10 (val_main_v8 (F := Ideal) x1) b (by decide)
  have h9 : val_main_v8 (F := Ideal) x1 (StableHlo.Predicate.ixP b) = BitVec.ofNat 32 n.val :=
    (congrArg _ (by funext a; match a with | ⟨0, _⟩ => rfl | ⟨1, _⟩ => rfl)).trans h8
  unfold val_main_v9
  refine (congrArg _ (by funext a; match a with | ⟨0, _⟩ => rfl)).trans (key.trans ?_)
  show x10 _ = x10 _
  congr 1
  funext a
  match a with
  | ⟨0, _⟩ => exact Fin.ext ((congrArg (fun v : BitVec 32 => min v.toInt.toNat 10) h9).trans (hn n))

theorem val_v49 (b : Fin 24) (c : Fin 64) : val_main_v49 (F := Ideal) x0 x1 x6 x10 (ix2 b c) = (𝔸).s b c := by
  pointwise [val_main_v49, val_main_v48, val_main_v47, val_main_v46, val_main_v45, val_main_v44, val_main_v0]
  simp only [val_v1 x0 x1 x2 x3 x4 x5 x6 x7 x8 x9 x10]
  exact (𝔸).pick b _ _ (fun n hn => val_v9 x0 x1 x2 x3 x4 x5 x6 x7 x8 x9 x10 b n hn)

theorem val_v58 (b : Fin 24) (t : Fin 2) (f : Fin 20480) :
    val_main_v58 (F := Ideal) x0 x1 x2 x3 x6 x7 x10 (ix3 b t f) = (𝔸).gu b t f := by
  pointwise [val_main_v58, val_main_v57, val_main_v56, val_main_v55, val_main_v54, val_main_v53, val_main_v52, val_main_v51, val_main_v50, val_main_v2]
  simp only [val_v1 x0 x1 x2 x3 x4 x5 x6 x7 x8 x9 x10, val_v43 x0 x1 x2 x3 x4 x5 x6 x7 x8 x9 x10, val_v49 x0 x1 x2 x3 x4 x5 x6 x7 x8 x9 x10]
  unfold Spec.Args.gu Spec.Args.delta Spec.Args.s
  congr 1
  · exact congrArg ((𝔸).lin b) (Fin.ext (by show _ = _; simp only; omega))
  · refine Finset.sum_congr rfl fun n _ => Finset.sum_congr rfl fun r _ => ?_
    rw [mul_comm]
    congr 1
    refine ((𝔸).place b _ n).trans ?_
    unfold Spec.Args.mg
    have e : (⟨t.val * 32 + r.val, by omega⟩ : Fin 64) = ⟨32 * t.val + r.val, by omega⟩ := Fin.ext (by show _ = _; simp only; omega)
    rw [e]

theorem val_v71 (b : Fin 24) (f : Fin 20480) : val_main_v71 (F := Ideal) x0 x1 x2 x3 x6 x7 x10 (ix2 b f) = (𝔸).h b f := by
  pointwise [val_main_v71, val_main_v70, val_main_v69, val_main_v68, val_main_v67, val_main_v66, val_main_v65, val_main_v64, val_main_v63, val_main_v62, val_main_v61, val_main_v60, val_main_v59, val_main_cst, val_main_cst_7]
  simp only [val_v58 x0 x1 x2 x3 x4 x5 x6 x7 x8 x9 x10]
  rfl

theorem val_v105 (b : Fin 24) (d : Fin 7168) : val_main_v105 (F := Ideal) x0 x1 x2 x3 x4 x5 x6 x7 x10 (ix2 b d) = (𝔸).y b d := by
  pointwise [val_main_v105, val_main_v102, val_main_v104, val_main_v101, val_main_v103]
  simp only [val_v71 x0 x1 x2 x3 x4 x5 x6 x7 x8 x9 x10, val_v94 x0 x1 x2 x3 x4 x5 x6 x7 x8 x9 x10, val_v100 x0 x1 x2 x3 x4 x5 x6 x7 x8 x9 x10]
  rfl

theorem val_v111 (b : Fin 24) (r : Fin 32) : val_main_v111 (F := Ideal) x0 x1 x2 x3 x6 x7 x8 x10 (ix2 b r) = (𝔸).t b r := by
  pointwise [val_main_v111, val_main_v110, val_main_v109, val_main_v108, val_main_v107, val_main_v106]
  simp only [val_v1 x0 x1 x2 x3 x4 x5 x6 x7 x8 x9 x10, val_v71 x0 x1 x2 x3 x4 x5 x6 x7 x8 x9 x10]
  exact (𝔸).pick b _ _ (fun n hn => val_v9 x0 x1 x2 x3 x4 x5 x6 x7 x8 x9 x10 b n hn)

theorem val_v119 (b : Fin 24) (d : Fin 7168) :
    val_main_v119 (F := Ideal) x0 x1 x2 x3 x4 x5 x6 x7 x8 x9 x10 (ix2 b d) = (𝔸).out b d := by
  pointwise [val_main_v119, val_main_v118, val_main_v117, val_main_v116, val_main_v115, val_main_v114, val_main_v113, val_main_v112, val_main_v2]
  simp only [val_v1 x0 x1 x2 x3 x4 x5 x6 x7 x8 x9 x10, val_v105 x0 x1 x2 x3 x4 x5 x6 x7 x8 x9 x10, val_v111 x0 x1 x2 x3 x4 x5 x6 x7 x8 x9 x10]
  unfold Spec.Args.out Spec.Args.t
  congr 1
  refine Finset.sum_congr rfl fun n _ => Finset.sum_congr rfl fun r _ => ?_
  congr 1
  exact (𝔸).place b (fun n => (∑ f : Fin 20480, (𝔸).h b f * (𝔸).ad n f r) * (𝔸).sc n) n

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KFrame
public import proofs.«01_k».proof.Proof.KIResult
public import proofs.«01_k».proof.Proof.RefValue
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The reference is host code alone: its run leaves the arguments unchanged, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The two rewrites, at each shape they are used at. -/
theorem preserves : Cert.preserves_Kernel_KernelIdeal :=
  ⟨IdealRules.bf16_pair.statement Cert.KernelIdeal.S56x256 Cert.KernelIdeal.S28x256,
    IdealRules.bf16_pair.statement Cert.KernelIdeal.S16x256 Cert.KernelIdeal.S8x256,
    IdealRules.bf16_pair.statement Cert.KernelIdeal.S16x7168 Cert.KernelIdeal.S8x7168,
    IdealRules.bf16_pack.statement Cert.KernelIdeal.S8x7168⟩

/-- Equal arrays give equal arguments. -/
theorem args_congr {x0 y0 : (⟨Cert.ReferenceIdeal.S24x1x7168, .bf16⟩ : BufTy).Contents (Elt Ideal)}
    {x1 y1 : (⟨Cert.ReferenceIdeal.S24, .i32⟩ : BufTy).Contents (Elt Ideal)}
    {x2 y2 : (⟨Cert.ReferenceIdeal.S3584x40960, .i8⟩ : BufTy).Contents (Elt Ideal)}
    {x3 y3 : (⟨Cert.ReferenceIdeal.S56x40960, .bf16⟩ : BufTy).Contents (Elt Ideal)}
    {x4 y4 : (⟨Cert.ReferenceIdeal.S10240x7168, .i8⟩ : BufTy).Contents (Elt Ideal)}
    {x5 y5 : (⟨Cert.ReferenceIdeal.S160x7168, .bf16⟩ : BufTy).Contents (Elt Ideal)}
    {x6 y6 : (⟨Cert.ReferenceIdeal.S11x7168x64, .bf16⟩ : BufTy).Contents (Elt Ideal)}
    {x7 y7 : (⟨Cert.ReferenceIdeal.S11x2x32x20480, .bf16⟩ : BufTy).Contents (Elt Ideal)}
    {x8 y8 : (⟨Cert.ReferenceIdeal.S11x20480x32, .bf16⟩ : BufTy).Contents (Elt Ideal)}
    {x9 y9 : (⟨Cert.ReferenceIdeal.S11x32x7168, .bf16⟩ : BufTy).Contents (Elt Ideal)}
    {x10 y10 : (⟨Cert.ReferenceIdeal.S11, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) :
    Cert.ReferenceIdeal.RefValue.args x0 x1 x2 x3 x4 x5 x6 x7 x8 x9 x10 = Cert.ReferenceIdeal.RefValue.args y0 y1 y2 y3 y4 y5 y6 y7 y8 y9 y10 := by
  subst e0 e1 e2 e3 e4 e5 e6 e7 e8 e9 e10; rfl

open Cert.ReferenceIdeal.RefValue Cert.ReferenceIdeal.Read Cert.KernelIdeal.Body Idealize.ShloMosaic.Pointwise in
/-- The reference's four results, at the kernel's arguments. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v119 m' c = resOut (kargs m c)
      ∧ Cert.ReferenceIdeal.Value.res_main_v71 m' c = resH (kargs m c)
      ∧ val_main_v49 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) = resS (kargs m c)
      ∧ Cert.ReferenceIdeal.Value.res_main_v111 m' c = resT (kargs m c) := by
  have eA : args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = kargs m c :=
    (args_congr e0 e1 e2 e3 e4 e5 e6 e7 e8 e9 e10).trans rfl
  rw [val_main_v119_eq, val_main_v71_eq, val_main_v111_eq]
  refine ⟨funext fun i => ?_, funext fun i => ?_, funext fun i => ?_, funext fun i => ?_⟩
  · rw [eq_ix2 (n0 := 24) (n1 := 7168) i]
    exact (val_v119 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) _ _).trans (by rw [eA]; rfl)
  · rw [eq_ix2 (n0 := 24) (n1 := 20480) i]
    exact (val_v71 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) _ _).trans (by rw [eA]; rfl)
  · rw [eq_ix2 (n0 := 24) (n1 := 64) i]
    exact (val_v49 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) _ _).trans (by rw [eA]; rfl)
  · rw [eq_ix2 (n0 := 24) (n1 := 32) i]
    exact (val_v111 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) _ _).trans (by rw [eA]; rfl)

/-- All four results agree. -/
theorem algebraic : Cert.algebraic_KernelIdeal_ReferenceIdeal (hKernelIdeal := Cert.KernelIdeal.Gen.facts) (hReferenceIdeal := Cert.ReferenceIdeal.Gen.facts) :=
  fun m g m' g' _ ha =>
    have hr := fun c => let ⟨e0, e1, e2, e3, e4, e5, e6, e7, e8, e9, e10⟩ := ha c
      reference_results m m' c e0 e1 e2 e3 e4 e5 e6 e7 e8 e9 e10
    ⟨fun c => Cert.KernelIdeal.Body.resOut (Cert.KernelIdeal.Body.kargs m c), fun c => Cert.KernelIdeal.Body.resH (Cert.KernelIdeal.Body.kargs m c),
      fun c => Cert.KernelIdeal.Body.resS (Cert.KernelIdeal.Body.kargs m c), fun c => Cert.KernelIdeal.Body.resT (Cert.KernelIdeal.Body.kargs m c),
      Cert.KernelIdeal.Body.run_values m g,
      (θ_run Cert.ReferenceIdeal.defs _ _).mono (fun r h c => ⟨(h c).1.trans (hr c).1, (h c).2.1.trans (hr c).2.1,
          (h c).2.2.1.trans (hr c).2.2.1, (h c).2.2.2.1.trans (hr c).2.2.2, (h c).2.2.2.2⟩)
        (Cert.ReferenceIdeal.Value.run (F := Ideal) m' g')⟩

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, frame_reference, preserves, algebraic⟩

end Cert.Proof

end
